-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v34)) (v2 : (c : Dev Cert.KernelIdeal.nD) → Buf (Elt Ideal) ((c.tc : Thread Cert.KernelIdeal.nD Cert.KernelIdeal.τ).loc Cert.KernelIdeal.main_v36)) (v3 : (c : Dev Cert.KernelIdeal.nD) → Buf (Elt Ideal) ((c.tc : Thread Cert.KernelIdeal.nD Cert.KernelIdeal.τ).loc Cert.KernelIdeal.main_v37)) (v4 : (c : Dev Cert.KernelIdeal.nD) → Buf (Elt Ideal) ((c.tc : Thread Cert.KernelIdeal.nD Cert.KernelIdeal.τ).loc Cert.KernelIdeal.main_v39)) (v5 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v34) = v1 c
          ∧ r.2.mem ((c.tc : Thread Cert.KernelIdeal.nD Cert.KernelIdeal.τ).loc Cert.KernelIdeal.main_v36) = v2 c
          ∧ r.2.mem ((c.tc : Thread Cert.KernelIdeal.nD Cert.KernelIdeal.τ).loc Cert.KernelIdeal.main_v37) = v3 c
          ∧ r.2.mem ((c.tc : Thread Cert.KernelIdeal.nD Cert.KernelIdeal.τ).loc Cert.KernelIdeal.main_v39) = v4 c
          ∧ r.2.mem ((c.tc : Thread Cert.KernelIdeal.nD Cert.KernelIdeal.τ).loc Cert.KernelIdeal.main_v40) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_v18) = v2 c
          ∧ r.2.mem ((c.tc : Thread Cert.ReferenceIdeal.nD Cert.ReferenceIdeal.τ).loc Cert.ReferenceIdeal.main_v22) = v3 c
          ∧ r.2.mem ((c.tc : Thread Cert.ReferenceIdeal.nD Cert.ReferenceIdeal.τ).loc Cert.ReferenceIdeal.main_v1) = v4 c
          ∧ r.2.mem ((c.tc : Thread Cert.ReferenceIdeal.nD Cert.ReferenceIdeal.τ).loc Cert.ReferenceIdeal.main_v6) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4 : Shape := ⟨2, ![1024, 4]⟩
abbrev S1024x4x32 : Shape := ⟨3, ![1024, 4, 32]⟩
abbrev S1024x200x2 : Shape := ⟨3, ![1024, 200, 2]⟩
abbrev S1024x200x2x32 : Shape := ⟨4, ![1024, 200, 2, 32]⟩
abbrev S1024x200x32 : Shape := ⟨3, ![1024, 200, 32]⟩
abbrev S1024x32x2 : Shape := ⟨3, ![1024, 32, 2]⟩
abbrev S1024x32x2x32 : Shape := ⟨4, ![1024, 32, 2, 32]⟩
abbrev S1024x32x32 : Shape := ⟨3, ![1024, 32, 32]⟩
abbrev S128x32 : Shape := ⟨2, ![128, 32]⟩
abbrev S160x32 : Shape := ⟨2, ![160, 32]⟩
abbrev S192x32 : Shape := ⟨2, ![192, 32]⟩
abbrev S200x2x32x1024 : Shape := ⟨4, ![200, 2, 32, 1024]⟩
abbrev S12800x1024 : Shape := ⟨2, ![12800, 1024]⟩
abbrev S200x32x1024 : Shape := ⟨3, ![200, 32, 1024]⟩
abbrev S6400x1024 : Shape := ⟨2, ![6400, 1024]⟩
abbrev S32x2x32x1024 : Shape := ⟨4, ![32, 2, 32, 1024]⟩
abbrev S2048x1024 : Shape := ⟨2, ![2048, 1024]⟩
abbrev S32x32x1024 : Shape := ⟨3, ![32, 32, 1024]⟩
abbrev S1024x1024 : Shape := ⟨2, ![1024, 1024]⟩
abbrev S4x32x1024 : Shape := ⟨3, ![4, 32, 1024]⟩
abbrev S128x1024 : Shape := ⟨2, ![128, 1024]⟩
abbrev S4x1024 : Shape := ⟨2, ![4, 1024]⟩
abbrev S200x2x1024 : Shape := ⟨3, ![200, 2, 1024]⟩
abbrev S32x2x1024 : Shape := ⟨3, ![32, 2, 1024]⟩
abbrev S32x128 : Shape := ⟨2, ![32, 128]⟩
abbrev S32x160 : Shape := ⟨2, ![32, 160]⟩
abbrev S32x192 : Shape := ⟨2, ![32, 192]⟩
abbrev S32x1024 : Shape := ⟨2, ![32, 1024]⟩
abbrev S1x1024 : Shape := ⟨2, ![1, 1024]⟩
abbrev S200x1024 : Shape := ⟨2, ![200, 1024]⟩
abbrev S1280x1024 : Shape := ⟨2, ![1280, 1024]⟩
abbrev S640x1024 : Shape := ⟨2, ![640, 1024]⟩
abbrev S512x1024 : Shape := ⟨2, ![512, 1024]⟩
abbrev S256x1024 : Shape := ⟨2, ![256, 1024]⟩
abbrev S128x256 : Shape := ⟨2, ![128, 256]⟩
abbrev S128x128 : Shape := ⟨2, ![128, 128]⟩
abbrev S32x64 : Shape := ⟨2, ![32, 64]⟩
abbrev S32x32 : Shape := ⟨2, ![32, 32]⟩
abbrev S200x1x1024 : Shape := ⟨3, ![200, 1, 1024]⟩
abbrev S32x1x1024 : Shape := ⟨3, ![32, 1, 1024]⟩
abbrev S_ : Shape := ⟨0, ![]⟩
abbrev S1024x32 : Shape := ⟨2, ![1024, 32]⟩
abbrev S1024x200 : Shape := ⟨2, ![1024, 200]⟩
abbrev S1024x1x32 : Shape := ⟨3, ![1024, 1, 32]⟩
abbrev S1024x1 : Shape := ⟨2, ![1024, 1]⟩

abbrev nBuf : Space → Nat
  | .hbm => 63
  | .vmem => 36
  | .smem => 0
  | _ => 0

abbrev bufTy : (tb : Table) → Fin (tcTables nBuf tb) → BufTy
  | .hbm, ⟨0, _⟩ => ⟨S1024x4, .i32⟩
  | .hbm, ⟨1, _⟩ => ⟨S1024x4x32, .f32⟩
  | .hbm, ⟨2, _⟩ => ⟨S1024x200x2, .i32⟩
  | .hbm, ⟨3, _⟩ => ⟨S1024x200x2x32, .f32⟩
  | .hbm, ⟨4, _⟩ => ⟨S1024x200x2x32, .f32⟩
  | .hbm, ⟨5, _⟩ => ⟨S1024x200x32, .f32⟩
  | .hbm, ⟨6, _⟩ => ⟨S1024x200x32, .f32⟩
  | .hbm, ⟨7, _⟩ => ⟨S1024x32x2, .i32⟩
  | .hbm, ⟨8, _⟩ => ⟨S1024x32x2x32, .f32⟩
  | .hbm, ⟨9, _⟩ => ⟨S1024x32x2x32, .f32⟩
  | .hbm, ⟨10, _⟩ => ⟨S1024x32x32, .f32⟩
  | .hbm, ⟨11, _⟩ => ⟨S128x32, .f32⟩
  | .hbm, ⟨12, _⟩ => ⟨S160x32, .f32⟩
  | .hbm, ⟨13, _⟩ => ⟨S192x32, .f32⟩
  | .hbm, ⟨14, _⟩ => ⟨S200x2x32x1024, .f32⟩
  | .hbm, ⟨15, _⟩ => ⟨S12800x1024, .f32⟩
  | .hbm, ⟨16, _⟩ => ⟨S200x2x32x1024, .f32⟩
  | .hbm, ⟨17, _⟩ => ⟨S12800x1024, .f32⟩
  | .hbm, ⟨18, _⟩ => ⟨S200x32x1024, .f32⟩
  | .hbm, ⟨19, _⟩ => ⟨S6400x1024, .f32⟩
  | .hbm, ⟨20, _⟩ => ⟨S200x32x1024, .f32⟩
  | .hbm, ⟨21, _⟩ => ⟨S6400x1024, .f32⟩
  | .hbm, ⟨22, _⟩ => ⟨S32x2x32x1024, .f32⟩
  | .hbm, ⟨23, _⟩ => ⟨S2048x1024, .f32⟩
  | .hbm, ⟨24, _⟩ => ⟨S32x2x32x1024, .f32⟩
  | .hbm, ⟨25, _⟩ => ⟨S2048x1024, .f32⟩
  | .hbm, ⟨26, _⟩ => ⟨S32x32x1024, .f32⟩
  | .hbm, ⟨27, _⟩ => ⟨S1024x1024, .f32⟩
  | .hbm, ⟨28, _⟩ => ⟨S4x32x1024, .f32⟩
  | .hbm, ⟨29, _⟩ => ⟨S128x1024, .f32⟩
  | .hbm, ⟨30, _⟩ => ⟨S4x1024, .i32⟩
  | .hbm, ⟨31, _⟩ => ⟨S200x2x1024, .i32⟩
  | .hbm, ⟨32, _⟩ => ⟨S32x2x1024, .i32⟩
  | .hbm, ⟨33, _⟩ => ⟨S32x128, .f32⟩
  | .hbm, ⟨34, _⟩ => ⟨S32x160, .f32⟩
  | .hbm, ⟨35, _⟩ => ⟨S32x192, .f32⟩
  | .hbm, ⟨36, _⟩ => ⟨S6400x1024, .f32⟩
  | .hbm, ⟨37, _⟩ => ⟨S1024x1024, .f32⟩
  | .hbm, ⟨38, _⟩ => ⟨S32x1024, .f32⟩
  | .hbm, ⟨39, _⟩ => ⟨S1x1024, .i32⟩
  | .hbm, ⟨40, _⟩ => ⟨S200x1024, .i32⟩
  | .hbm, ⟨41, _⟩ => ⟨S32x1024, .i32⟩
  | .hbm, ⟨42, _⟩ => ⟨S_, .i32⟩
  | .hbm, ⟨43, _⟩ => ⟨S1x1024, .i32⟩
  | .hbm, ⟨44, _⟩ => ⟨S1x1024, .i1⟩
  | .hbm, ⟨45, _⟩ => ⟨S1x1024, .i1⟩
  | .hbm, ⟨46, _⟩ => ⟨S_, .i32⟩
  | .hbm, ⟨47, _⟩ => ⟨S200x1024, .i32⟩
  | .hbm, ⟨48, _⟩ => ⟨S200x1024, .i1⟩
  | .hbm, ⟨49, _⟩ => ⟨S200x1024, .i1⟩
  | .hbm, ⟨50, _⟩ => ⟨S_, .i32⟩
  | .hbm, ⟨51, _⟩ => ⟨S32x1024, .i32⟩
  | .hbm, ⟨52, _⟩ => ⟨S32x1024, .i1⟩
  | .hbm, ⟨53, _⟩ => ⟨S32x1024, .i1⟩
  | .hbm, ⟨54, _⟩ => ⟨S32x32x1024, .f32⟩
  | .hbm, ⟨55, _⟩ => ⟨S1024x32x32, .f32⟩
  | .hbm, ⟨56, _⟩ => ⟨S1024x32, .i1⟩
  | .hbm, ⟨57, _⟩ => ⟨S200x32x1024, .f32⟩
  | .hbm, ⟨58, _⟩ => ⟨S1024x200x32, .f32⟩
  | .hbm, ⟨59, _⟩ => ⟨S1024x200, .i1⟩
  | .hbm, ⟨60, _⟩ => ⟨S1024x32, .f32⟩
  | .hbm, ⟨61, _⟩ => ⟨S1024x1x32, .f32⟩
  | .hbm, ⟨62, _⟩ => ⟨S1024x1, .i1⟩
  | .local _ .vmem, ⟨0, _⟩ => ⟨S1280x1024, .f32⟩
  | .local _ .vmem, ⟨1, _⟩ => ⟨S1280x1024, .f32⟩
  | .local _ .vmem, ⟨2, _⟩ => ⟨S1280x1024, .f32⟩
  | .local _ .vmem, ⟨3, _⟩ => ⟨S1280x1024, .f32⟩
  | .local _ .vmem, ⟨4, _⟩ => ⟨S640x1024, .f32⟩
  | .local _ .vmem, ⟨5, _⟩ => ⟨S640x1024, .f32⟩
  | .local _ .vmem, ⟨6, _⟩ => ⟨S640x1024, .f32⟩
  | .local _ .vmem, ⟨7, _⟩ => ⟨S640x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S256x1024, .f32⟩
  | .local _ .vmem, ⟨13, _⟩ => ⟨S256x1024, .f32⟩
  | .local _ .vmem, ⟨14, _⟩ => ⟨S128x1024, .f32⟩
  | .local _ .vmem, ⟨15, _⟩ => ⟨S4x1024, .i32⟩
  | .local _ .vmem, ⟨16, _⟩ => ⟨S200x2x1024, .i32⟩
  | .local _ .vmem, ⟨17, _⟩ => ⟨S32x2x1024, .i32⟩
  | .local _ .vmem, ⟨18, _⟩ => ⟨S32x128, .f32⟩
  | .local _ .vmem, ⟨19, _⟩ => ⟨S32x160, .f32⟩
  | .local _ .vmem, ⟨20, _⟩ => ⟨S32x192, .f32⟩
  | .local _ .vmem, ⟨21, _⟩ => ⟨S640x1024, .f32⟩
  | .local _ .vmem, ⟨22, _⟩ => ⟨S640x1024, .f32⟩
  | .local _ .vmem, ⟨23, _⟩ => ⟨S256x1024, .f32⟩
  | .local _ .vmem, ⟨24, _⟩ => ⟨S256x1024, .f32⟩
  | .local _ .vmem, ⟨25, _⟩ => ⟨S32x1024, .f32⟩
  | .local _ .vmem, ⟨26, _⟩ => ⟨S1x1024, .i32⟩
  | .local _ .vmem, ⟨27, _⟩ => ⟨S200x1024, .i32⟩
  | .local _ .vmem, ⟨28, _⟩ => ⟨S32x1024, .i32⟩
  | .local _ .vmem, ⟨29, _⟩ => ⟨S128x256, .f32⟩
  | .local _ .vmem, ⟨30, _⟩ => ⟨S128x256, .f32⟩
  | .local _ .vmem, ⟨31, _⟩ => ⟨S128x128, .f32⟩
  | .local _ .vmem, ⟨32, _⟩ => ⟨S128x128, .f32⟩
  | .local _ .vmem, ⟨33, _⟩ => ⟨S128x256, .f32⟩
  | .local _ .vmem, ⟨34, _⟩ => ⟨S128x256, .f32⟩
  | .local _ .vmem, ⟨35, _⟩ => ⟨S128x128, .f32⟩
  | _, _ => ⟨S1024x4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22_0 : Ref sig .tc := ⟨.hbm, 36, rfl⟩
abbrev main_v22_1 : Ref sig .tc := ⟨.hbm, 37, rfl⟩
abbrev main_v22_2 : Ref sig .tc := ⟨.hbm, 38, rfl⟩
abbrev main_v22_3 : Ref sig .tc := ⟨.hbm, 39, rfl⟩
abbrev main_v22_4 : Ref sig .tc := ⟨.hbm, 40, rfl⟩
abbrev main_v22_5 : Ref sig .tc := ⟨.hbm, 41, rfl⟩
abbrev main_c : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_0 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_1 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_scratch3 : Ref sig .tc := ⟨.vmem, 32, rfl⟩
abbrev cc0_scratch4 : Ref sig .tc := ⟨.vmem, 33, rfl⟩
abbrev cc0_scratch5 : Ref sig .tc := ⟨.vmem, 34, rfl⟩
abbrev cc0_scratch6 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem17_0 : DmaSem sig := 26
abbrev cc0_sem18_0 : DmaSem sig := 27
abbrev cc0_sem19_0 : DmaSem sig := 28

abbrev nD : Nat := 1
abbrev τ : Topo := Topo.v7x

variable {F : FTy → Type} [FloatOps F]

abbrev grid0 : Pipeline.Grid := ⟨1, ![14], ![false]⟩

def k0_cond2 (i : grid0.Coords) : BitVec 1 :=
  let arg0 : BitVec 32 := BitVec.ofNat 32 (i 0).val
  let c10_i32 : BitVec 32 := 10#32
  let v3 : BitVec 1 := Scalar.cmpi .slt arg0 c10_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c10_i32_2 : BitVec 32 := 10#32
  let v6 : BitVec 1 := Scalar.cmpi .sge arg0 c10_i32_2
  let v7 : BitVec 32 := Scalar.extui v6
  let c0_i32_3 : BitVec 32 := 0#32
  let v8 : BitVec 1 := Scalar.cmpi .ne v7 c0_i32_3
  v8

def k0_cond4 (i : grid0.Coords) : BitVec 1 :=
  let arg0 : BitVec 32 := BitVec.ofNat 32 (i 0).val
  let c13_i32 : BitVec 32 := 13#32
  let v9 : BitVec 1 := Scalar.cmpi .eq arg0 c13_i32
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let c9_i32 : BitVec 32 := 9#32
  let v0 : BitVec 32 := Scalar.minsi arg0 c9_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c9_i32 : BitVec 32 := 9#32
  let v0 : BitVec 32 := Scalar.minsi arg0 c9_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c9_i32 : BitVec 32 := 9#32
  let v0 : BitVec 32 := Scalar.minsi arg0 c9_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c9_i32 : BitVec 32 := 9#32
  let v0 : BitVec 32 := Scalar.minsi arg0 c9_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c10_i32 : BitVec 32 := 10#32
  let v0 : BitVec 32 := Scalar.subi arg0 c10_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c10_i32 : BitVec 32 := 10#32
  let v0 : BitVec 32 := Scalar.subi arg0 c10_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c10_i32 : BitVec 32 := 10#32
  let v0 : BitVec 32 := Scalar.subi arg0 c10_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c9_i32 : BitVec 32 := 9#32
  let v0 : BitVec 32 := Scalar.minsi arg0 c9_i32
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c10_i32 : BitVec 32 := 10#32
  let v0 : BitVec 32 := Scalar.subi arg0 c10_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![v2.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1280x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1280x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x1024 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S200x2x1024 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x2x1024 .i32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x160 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S32x192 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S640x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S32x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .i32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S200x1024 .i32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S32x1024 .i32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== ReferenceIdeal.lean ====
abbrev S1024x4 : Shape := ⟨2, ![1024, 4]⟩
abbrev S1024x4x32 : Shape := ⟨3, ![1024, 4, 32]⟩
abbrev S1024x200x2 : Shape := ⟨3, ![1024, 200, 2]⟩
abbrev S1024x200x2x32 : Shape := ⟨4, ![1024, 200, 2, 32]⟩
abbrev S1024x200x32 : Shape := ⟨3, ![1024, 200, 32]⟩
abbrev S1024x32x2 : Shape := ⟨3, ![1024, 32, 2]⟩
abbrev S1024x32x2x32 : Shape := ⟨4, ![1024, 32, 2, 32]⟩
abbrev S1024x32x32 : Shape := ⟨3, ![1024, 32, 32]⟩
abbrev S128x32 : Shape := ⟨2, ![128, 32]⟩
abbrev S160x32 : Shape := ⟨2, ![160, 32]⟩
abbrev S192x32 : Shape := ⟨2, ![192, 32]⟩
abbrev S1024x1x128 : Shape := ⟨3, ![1024, 1, 128]⟩
abbrev S1024x1x32 : Shape := ⟨3, ![1024, 1, 32]⟩
abbrev S1024x1 : Shape := ⟨2, ![1024, 1]⟩
abbrev S1024 : Shape := ⟨1, ![1024]⟩
abbrev S_ : Shape := ⟨0, ![]⟩
abbrev S1024x32x64 : Shape := ⟨3, ![1024, 32, 64]⟩
abbrev S1024x32x160 : Shape := ⟨3, ![1024, 32, 160]⟩
abbrev S1024x32x1 : Shape := ⟨3, ![1024, 32, 1]⟩
abbrev S1024x32 : Shape := ⟨2, ![1024, 32]⟩
abbrev S1024x200x64 : Shape := ⟨3, ![1024, 200, 64]⟩
abbrev S1024x200x192 : Shape := ⟨3, ![1024, 200, 192]⟩
abbrev S1024x200x1 : Shape := ⟨3, ![1024, 200, 1]⟩
abbrev S1024x200 : Shape := ⟨2, ![1024, 200]⟩

abbrev nBuf : Space → Nat
  | .hbm => 40
  | .vmem => 0
  | .smem => 0
  | _ => 0

abbrev bufTy : (tb : Table) → Fin (tcTables nBuf tb) → BufTy
  | .hbm, ⟨0, _⟩ => ⟨S1024x4, .i32⟩
  | .hbm, ⟨1, _⟩ => ⟨S1024x4x32, .f32⟩
  | .hbm, ⟨2, _⟩ => ⟨S1024x200x2, .i32⟩
  | .hbm, ⟨3, _⟩ => ⟨S1024x200x2x32, .f32⟩
  | .hbm, ⟨4, _⟩ => ⟨S1024x200x2x32, .f32⟩
  | .hbm, ⟨5, _⟩ => ⟨S1024x200x32, .f32⟩
  | .hbm, ⟨6, _⟩ => ⟨S1024x200x32, .f32⟩
  | .hbm, ⟨7, _⟩ => ⟨S1024x32x2, .i32⟩
  | .hbm, ⟨8, _⟩ => ⟨S1024x32x2x32, .f32⟩
  | .hbm, ⟨9, _⟩ => ⟨S1024x32x2x32, .f32⟩
  | .hbm, ⟨10, _⟩ => ⟨S1024x32x32, .f32⟩
  | .hbm, ⟨11, _⟩ => ⟨S128x32, .f32⟩
  | .hbm, ⟨12, _⟩ => ⟨S160x32, .f32⟩
  | .hbm, ⟨13, _⟩ => ⟨S192x32, .f32⟩
  | .hbm, ⟨14, _⟩ => ⟨S1024x1x128, .f32⟩
  | .hbm, ⟨15, _⟩ => ⟨S1024x1x32, .f32⟩
  | .hbm, ⟨16, _⟩ => ⟨S1024x1, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S1024x1, .i1⟩
  | .hbm, ⟨22, _⟩ => ⟨S1024x32x64, .f32⟩
  | .hbm, ⟨23, _⟩ => ⟨S1024x32x64, .f32⟩
  | .hbm, ⟨24, _⟩ => ⟨S1024x32x160, .f32⟩
  | .hbm, ⟨25, _⟩ => ⟨S1024x32x32, .f32⟩
  | .hbm, ⟨26, _⟩ => ⟨S1024x32x1, .i32⟩
  | .hbm, ⟨27, _⟩ => ⟨S1024x32, .i32⟩
  | .hbm, ⟨28, _⟩ => ⟨S_, .i32⟩
  | .hbm, ⟨29, _⟩ => ⟨S1024x32, .i32⟩
  | .hbm, ⟨30, _⟩ => ⟨S1024x32, .i1⟩
  | .hbm, ⟨31, _⟩ => ⟨S1024x200x64, .f32⟩
  | .hbm, ⟨32, _⟩ => ⟨S1024x200x64, .f32⟩
  | .hbm, ⟨33, _⟩ => ⟨S1024x200x192, .f32⟩
  | .hbm, ⟨34, _⟩ => ⟨S1024x200x32, .f32⟩
  | .hbm, ⟨35, _⟩ => ⟨S1024x200x1, .i32⟩
  | .hbm, ⟨36, _⟩ => ⟨S1024x200, .i32⟩
  | .hbm, ⟨37, _⟩ => ⟨S_, .i32⟩
  | .hbm, ⟨38, _⟩ => ⟨S1024x200, .i32⟩
  | .hbm, ⟨39, _⟩ => ⟨S1024x200, .i1⟩
  | _, _ => ⟨S1024x4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_1 : Ref sig .tc := ⟨.hbm, 37, rfl⟩
abbrev main_v21 : Ref sig .tc := ⟨.hbm, 38, rfl⟩
abbrev main_v22 : Ref sig .tc := ⟨.hbm, 39, rfl⟩

abbrev nD : Nat := 1
abbrev τ : Topo := Topo.v7x

variable {F : FTy → Type} [FloatOps F]
-- ==== Proof.Whole.Runs.lean ====
module

public import proofs.«01_k».proof.Proof.Gen.Kernel.Frame
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Whole

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 14 = 0 :=
  (fun t => by
    have ht : t.val < 14 := Nat.lt_of_lt_of_eq t.isLt N_0
    have e0 : (grid0.coords t 0).val = t.val / 1 % 14 := Pipeline.Grid.coords_val t 0 (by decide) rfl
    simp only [cond0_0, e0]
    word_cmp
   : ∀ t : Fin grid0.N, cond0_0 (grid0.coords t) ↔ t.val % 14 = 0)

/-- The condition of the body's `scf.if` 1 (`k0_h2`), from the grid coordinates (the skeleton's scalar
    chain substituted). -/
abbrev cond0_1 (i : grid0.Coords) : Prop := k0_cond2 i = 1#1
/-- It holds at the points before point 10 — decided over the grid. -/
theorem hcond0_1 : ∀ t : Fin cfg0.N, cond0_1 (grid0.coords t) ↔ t.val < 10 :=
  (by decide +kernel : ∀ t : Fin grid0.N, cond0_1 (grid0.coords t) ↔ t.val < 10)

/-- The condition of the body's `scf.if` 2 (`k0_h3`), from the grid coordinates (the skeleton's scalar
    chain substituted). -/
abbrev cond0_2 (i : grid0.Coords) : Prop := k0_cond3 i = 1#1
/-- It holds at the points from point 10 on — decided over the grid. -/
theorem hcond0_2 : ∀ t : Fin cfg0.N, cond0_2 (grid0.coords t) ↔ 10 ≤ t.val :=
  (by decide +kernel : ∀ t : Fin grid0.N, cond0_2 (grid0.coords t) ↔ 10 ≤ t.val)

/-- The condition of the body's `scf.if` 3 (`k0_h4`), from the grid coordinates (the skeleton's scalar
    chain substituted). -/
abbrev cond0_3 (i : grid0.Coords) : Prop := k0_cond4 i = 1#1
/-- It holds at the last point only — by arithmetic of the point. -/
theorem hcond0_3 : ∀ t : Fin cfg0.N, cond0_3 (grid0.coords t) ↔ t.val % 14 = 13 :=
  (fun t => by
    have ht : t.val < 14 := Nat.lt_of_lt_of_eq t.isLt N_0
    have e0 : (grid0.coords t 0).val = t.val / 1 % 14 := Pipeline.Grid.coords_val t 0 (by decide) rfl
    simp only [cond0_3, k0_cond4, e0]
    word_cmp
   : ∀ t : Fin grid0.N, cond0_3 (grid0.coords t) ↔ t.val % 14 = 13)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Window 12 is never idle (an input). -/
theorem liveAt0_12 : ∀ t : Fin cfg0.N, cfg0.idle 12 (grid0.coords t) = false := fun _ => rfl
/-- Window 13 is never idle (an input). -/
theorem liveAt0_13 : ∀ t : Fin cfg0.N, cfg0.idle 13 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1280x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1280x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S640x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S640x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S4x1024 .i32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S200x2x1024 .i32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S32x2x1024 .i32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S32x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S32x160 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S32x192 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S640x1024 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S256x1024 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S32x1024 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x1024 .i32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S200x1024 .i32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S32x1024 .i32 := win0_19.stage (cfg0.slots t 19)
abbrev hs0_19 (t : Fin cfg0.N) : (ms0_19 t).IsWhole := hstage0_19 ((cfg0.slots t 19).cast nbuf0_19)
/-- The scratch operands: whole scoped buffers of the kernel's own, passed beside the windows. -/
abbrev scM0_0 : Memref sig .tc .vmem S128x256 .f32 := Memref.whole cc0_scratch0
abbrev scM0_1 : Memref sig .tc .vmem S128x256 .f32 := Memref.whole cc0_scratch1
abbrev scM0_2 : Memref sig .tc .vmem S128x128 .f32 := Memref.whole cc0_scratch2
abbrev scM0_3 : Memref sig .tc .vmem S128x128 .f32 := Memref.whole cc0_scratch3
abbrev scM0_4 : Memref sig .tc .vmem S128x256 .f32 := Memref.whole cc0_scratch4
abbrev scM0_5 : Memref sig .tc .vmem S128x256 .f32 := Memref.whole cc0_scratch5
abbrev scM0_6 : Memref sig .tc .vmem S128x128 .f32 := Memref.whole cc0_scratch6

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

end Cert.Kernel.Whole

end
-- ==== Proof.Whole.RunA.lean ====
module

public import proofs.«01_k».proof.Proof.Whole.Runs

/-! The body at the first grid point. -/

@[expose] public section

set_option maxRecDepth 16384

noncomputable section

namespace Cert.Kernel.Whole

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE A (`scf.if` 0 taken, `scf.if` 1 taken, `scf.if` 2 not taken, `scf.if` 3 not taken: points 0): on whole staging memrefs — the inputs' at their contents,
    the FORGOTTEN outputs' (14, 15, 16, 17, 18, 19) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S1280x1024 .f32) (harg1 : arg1.IsWhole) (arg2 : Memref sig .tc .vmem S1280x1024 .f32) (harg2 : arg2.IsWhole) (arg3 : Memref sig .tc .vmem S640x1024 .f32) (harg3 : arg3.IsWhole) (arg4 : Memref sig .tc .vmem S640x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S256x1024 .f32) (harg7 : arg7.IsWhole) (arg8 : Memref sig .tc .vmem S128x1024 .f32) (harg8 : arg8.IsWhole) (arg9 : Memref sig .tc .vmem S4x1024 .i32) (harg9 : arg9.IsWhole) (arg10 : Memref sig .tc .vmem S200x2x1024 .i32) (harg10 : arg10.IsWhole) (arg11 : Memref sig .tc .vmem S32x2x1024 .i32) (harg11 : arg11.IsWhole) (arg12 : Memref sig .tc .vmem S32x128 .f32) (harg12 : arg12.IsWhole) (arg13 : Memref sig .tc .vmem S32x160 .f32) (harg13 : arg13.IsWhole) (arg14 : Memref sig .tc .vmem S32x192 .f32) (harg14 : arg14.IsWhole) (arg15 : Memref sig .tc .vmem S640x1024 .f32) (harg15 : arg15.IsWhole) (arg16 : Memref sig .tc .vmem S256x1024 .f32) (harg16 : arg16.IsWhole) (arg17 : Memref sig .tc .vmem S32x1024 .f32) (harg17 : arg17.IsWhole) (arg18 : Memref sig .tc .vmem S1x1024 .i32) (harg18 : arg18.IsWhole) (arg19 : Memref sig .tc .vmem S200x1024 .i32) (harg19 : arg19.IsWhole) (arg20 : Memref sig .tc .vmem S32x1024 .i32) (harg20 : arg20.IsWhole) (arg21 : Memref sig .tc .vmem S128x256 .f32) (harg21 : arg21.IsWhole) (arg22 : Memref sig .tc .vmem S128x256 .f32) (harg22 : arg22.IsWhole) (arg23 : Memref sig .tc .vmem S128x128 .f32) (harg23 : arg23.IsWhole) (arg24 : Memref sig .tc .vmem S128x128 .f32) (harg24 : arg24.IsWhole) (arg25 : Memref sig .tc .vmem S128x256 .f32) (harg25 : arg25.IsWhole) (arg26 : Memref sig .tc .vmem S128x256 .f32) (harg26 : arg26.IsWhole) (arg27 : Memref sig .tc .vmem S128x128 .f32) (harg27 : arg27.IsWhole) (hc0 : cond0_0 i) (hc1 : cond0_1 i) (hc2 : ¬cond0_2 i) (hc3 : ¬cond0_3 i)
    (x0 : Vec F S1280x1024 .f32) (x1 : Vec F S1280x1024 .f32) (x2 : Vec F S640x1024 .f32) (x3 : Vec F S640x1024 .f32) (x4 : Vec F S512x1024 .f32) (x5 : Vec F S512x1024 .f32) (x6 : Vec F S256x1024 .f32) (x7 : Vec F S128x1024 .f32) (x8 : Vec F S4x1024 .i32) (x9 : Vec F S200x2x1024 .i32) (x10 : Vec F S32x2x1024 .i32) (x11 : Vec F S32x128 .f32) (x12 : Vec F S32x160 .f32) (x13 : Vec F S32x192 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
    intro E K
    simp only [cc0__fused_kernel_eq_skeleton]; unfold cc0__fused_kernel_skel
    simp only [k0_part4_eq_skeleton, k0_part1_eq_skeleton, k0_part2_eq_skeleton, k0_part3_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _, _; isplitr; swap; · iexact HS6
    ipureintro; rfl

end Cert.Kernel.Whole

end
-- ==== Proof.Whole.RunB.lean ====
module

public import proofs.«01_k».proof.Proof.Whole.RunA

/-! The body at the other history points. -/

@[expose] public section

set_option maxRecDepth 16384

noncomputable section

namespace Cert.Kernel.Whole

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE B (`scf.if` 0 not taken, `scf.if` 1 taken, `scf.if` 2 not taken, `scf.if` 3 not taken: points 1, 2, … 9: 9 of 14): on whole staging memrefs — the inputs' at their contents,
    the FORGOTTEN outputs' (14, 15, 16, 17, 18, 19) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S1280x1024 .f32) (harg1 : arg1.IsWhole) (arg2 : Memref sig .tc .vmem S1280x1024 .f32) (harg2 : arg2.IsWhole) (arg3 : Memref sig .tc .vmem S640x1024 .f32) (harg3 : arg3.IsWhole) (arg4 : Memref sig .tc .vmem S640x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S256x1024 .f32) (harg7 : arg7.IsWhole) (arg8 : Memref sig .tc .vmem S128x1024 .f32) (harg8 : arg8.IsWhole) (arg9 : Memref sig .tc .vmem S4x1024 .i32) (harg9 : arg9.IsWhole) (arg10 : Memref sig .tc .vmem S200x2x1024 .i32) (harg10 : arg10.IsWhole) (arg11 : Memref sig .tc .vmem S32x2x1024 .i32) (harg11 : arg11.IsWhole) (arg12 : Memref sig .tc .vmem S32x128 .f32) (harg12 : arg12.IsWhole) (arg13 : Memref sig .tc .vmem S32x160 .f32) (harg13 : arg13.IsWhole) (arg14 : Memref sig .tc .vmem S32x192 .f32) (harg14 : arg14.IsWhole) (arg15 : Memref sig .tc .vmem S640x1024 .f32) (harg15 : arg15.IsWhole) (arg16 : Memref sig .tc .vmem S256x1024 .f32) (harg16 : arg16.IsWhole) (arg17 : Memref sig .tc .vmem S32x1024 .f32) (harg17 : arg17.IsWhole) (arg18 : Memref sig .tc .vmem S1x1024 .i32) (harg18 : arg18.IsWhole) (arg19 : Memref sig .tc .vmem S200x1024 .i32) (harg19 : arg19.IsWhole) (arg20 : Memref sig .tc .vmem S32x1024 .i32) (harg20 : arg20.IsWhole) (arg21 : Memref sig .tc .vmem S128x256 .f32) (harg21 : arg21.IsWhole) (arg22 : Memref sig .tc .vmem S128x256 .f32) (harg22 : arg22.IsWhole) (arg23 : Memref sig .tc .vmem S128x128 .f32) (harg23 : arg23.IsWhole) (arg24 : Memref sig .tc .vmem S128x128 .f32) (harg24 : arg24.IsWhole) (arg25 : Memref sig .tc .vmem S128x256 .f32) (harg25 : arg25.IsWhole) (arg26 : Memref sig .tc .vmem S128x256 .f32) (harg26 : arg26.IsWhole) (arg27 : Memref sig .tc .vmem S128x128 .f32) (harg27 : arg27.IsWhole) (hc0 : ¬cond0_0 i) (hc1 : cond0_1 i) (hc2 : ¬cond0_2 i) (hc3 : ¬cond0_3 i)
    (x0 : Vec F S1280x1024 .f32) (x1 : Vec F S1280x1024 .f32) (x2 : Vec F S640x1024 .f32) (x3 : Vec F S640x1024 .f32) (x4 : Vec F S512x1024 .f32) (x5 : Vec F S512x1024 .f32) (x6 : Vec F S256x1024 .f32) (x7 : Vec F S128x1024 .f32) (x8 : Vec F S4x1024 .i32) (x9 : Vec F S200x2x1024 .i32) (x10 : Vec F S32x2x1024 .i32) (x11 : Vec F S32x128 .f32) (x12 : Vec F S32x160 .f32) (x13 : Vec F S32x192 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
    intro E K
    simp only [cc0__fused_kernel_eq_skeleton]; unfold cc0__fused_kernel_skel
    simp only [k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _, _; isplitr; swap; · iexact HS6
    ipureintro; rfl

end Cert.Kernel.Whole

end
-- ==== Proof.Whole.RunC.lean ====
module

public import proofs.«01_k».proof.Proof.Whole.RunB

/-! The body at the candidate points before the last. -/

@[expose] public section

set_option maxRecDepth 16384

noncomputable section

namespace Cert.Kernel.Whole

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE C (`scf.if` 0 not taken, `scf.if` 1 not taken, `scf.if` 2 taken, `scf.if` 3 not taken: points 10, 11, 12): on whole staging memrefs — the inputs' at their contents,
    the FORGOTTEN outputs' (14, 15, 16, 17, 18, 19) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_C (c : Dev nD) (i : grid0.Coords) (arg1 : Memref sig .tc .vmem S1280x1024 .f32) (harg1 : arg1.IsWhole) (arg2 : Memref sig .tc .vmem S1280x1024 .f32) (harg2 : arg2.IsWhole) (arg3 : Memref sig .tc .vmem S640x1024 .f32) (harg3 : arg3.IsWhole) (arg4 : Memref sig .tc .vmem S640x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S256x1024 .f32) (harg7 : arg7.IsWhole) (arg8 : Memref sig .tc .vmem S128x1024 .f32) (harg8 : arg8.IsWhole) (arg9 : Memref sig .tc .vmem S4x1024 .i32) (harg9 : arg9.IsWhole) (arg10 : Memref sig .tc .vmem S200x2x1024 .i32) (harg10 : arg10.IsWhole) (arg11 : Memref sig .tc .vmem S32x2x1024 .i32) (harg11 : arg11.IsWhole) (arg12 : Memref sig .tc .vmem S32x128 .f32) (harg12 : arg12.IsWhole) (arg13 : Memref sig .tc .vmem S32x160 .f32) (harg13 : arg13.IsWhole) (arg14 : Memref sig .tc .vmem S32x192 .f32) (harg14 : arg14.IsWhole) (arg15 : Memref sig .tc .vmem S640x1024 .f32) (harg15 : arg15.IsWhole) (arg16 : Memref sig .tc .vmem S256x1024 .f32) (harg16 : arg16.IsWhole) (arg17 : Memref sig .tc .vmem S32x1024 .f32) (harg17 : arg17.IsWhole) (arg18 : Memref sig .tc .vmem S1x1024 .i32) (harg18 : arg18.IsWhole) (arg19 : Memref sig .tc .vmem S200x1024 .i32) (harg19 : arg19.IsWhole) (arg20 : Memref sig .tc .vmem S32x1024 .i32) (harg20 : arg20.IsWhole) (arg21 : Memref sig .tc .vmem S128x256 .f32) (harg21 : arg21.IsWhole) (arg22 : Memref sig .tc .vmem S128x256 .f32) (harg22 : arg22.IsWhole) (arg23 : Memref sig .tc .vmem S128x128 .f32) (harg23 : arg23.IsWhole) (arg24 : Memref sig .tc .vmem S128x128 .f32) (harg24 : arg24.IsWhole) (arg25 : Memref sig .tc .vmem S128x256 .f32) (harg25 : arg25.IsWhole) (arg26 : Memref sig .tc .vmem S128x256 .f32) (harg26 : arg26.IsWhole) (arg27 : Memref sig .tc .vmem S128x128 .f32) (harg27 : arg27.IsWhole) (hc0 : ¬cond0_0 i) (hc1 : ¬cond0_1 i) (hc2 : cond0_2 i) (hc3 : ¬cond0_3 i)
    (x0 : Vec F S1280x1024 .f32) (x1 : Vec F S1280x1024 .f32) (x2 : Vec F S640x1024 .f32) (x3 : Vec F S640x1024 .f32) (x4 : Vec F S512x1024 .f32) (x5 : Vec F S512x1024 .f32) (x6 : Vec F S256x1024 .f32) (x7 : Vec F S128x1024 .f32) (x8 : Vec F S4x1024 .i32) (x9 : Vec F S200x2x1024 .i32) (x10 : Vec F S32x2x1024 .i32) (x11 : Vec F S32x128 .f32) (x12 : Vec F S32x160 .f32) (x13 : Vec F S32x192 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
    intro E K
    simp only [cc0__fused_kernel_eq_skeleton]; unfold cc0__fused_kernel_skel
    simp only [k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _, _; isplitr; swap; · iexact HS6
    ipureintro; rfl

end Cert.Kernel.Whole

end
-- ==== Proof.Whole.RunD.lean ====
module

public import proofs.«01_k».proof.Proof.Whole.RunC

/-! The body at the last grid point. -/

@[expose] public section

set_option maxRecDepth 16384

noncomputable section

namespace Cert.Kernel.Whole

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE D (`scf.if` 0 not taken, `scf.if` 1 not taken, `scf.if` 2 taken, `scf.if` 3 taken: points 13): on whole staging memrefs — the inputs' at their contents,
    the FORGOTTEN outputs' (14, 15, 16, 17, 18, 19) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_D (c : Dev nD) (i : grid0.Coords) (arg1 : Memref sig .tc .vmem S1280x1024 .f32) (harg1 : arg1.IsWhole) (arg2 : Memref sig .tc .vmem S1280x1024 .f32) (harg2 : arg2.IsWhole) (arg3 : Memref sig .tc .vmem S640x1024 .f32) (harg3 : arg3.IsWhole) (arg4 : Memref sig .tc .vmem S640x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S256x1024 .f32) (harg7 : arg7.IsWhole) (arg8 : Memref sig .tc .vmem S128x1024 .f32) (harg8 : arg8.IsWhole) (arg9 : Memref sig .tc .vmem S4x1024 .i32) (harg9 : arg9.IsWhole) (arg10 : Memref sig .tc .vmem S200x2x1024 .i32) (harg10 : arg10.IsWhole) (arg11 : Memref sig .tc .vmem S32x2x1024 .i32) (harg11 : arg11.IsWhole) (arg12 : Memref sig .tc .vmem S32x128 .f32) (harg12 : arg12.IsWhole) (arg13 : Memref sig .tc .vmem S32x160 .f32) (harg13 : arg13.IsWhole) (arg14 : Memref sig .tc .vmem S32x192 .f32) (harg14 : arg14.IsWhole) (arg15 : Memref sig .tc .vmem S640x1024 .f32) (harg15 : arg15.IsWhole) (arg16 : Memref sig .tc .vmem S256x1024 .f32) (harg16 : arg16.IsWhole) (arg17 : Memref sig .tc .vmem S32x1024 .f32) (harg17 : arg17.IsWhole) (arg18 : Memref sig .tc .vmem S1x1024 .i32) (harg18 : arg18.IsWhole) (arg19 : Memref sig .tc .vmem S200x1024 .i32) (harg19 : arg19.IsWhole) (arg20 : Memref sig .tc .vmem S32x1024 .i32) (harg20 : arg20.IsWhole) (arg21 : Memref sig .tc .vmem S128x256 .f32) (harg21 : arg21.IsWhole) (arg22 : Memref sig .tc .vmem S128x256 .f32) (harg22 : arg22.IsWhole) (arg23 : Memref sig .tc .vmem S128x128 .f32) (harg23 : arg23.IsWhole) (arg24 : Memref sig .tc .vmem S128x128 .f32) (harg24 : arg24.IsWhole) (arg25 : Memref sig .tc .vmem S128x256 .f32) (harg25 : arg25.IsWhole) (arg26 : Memref sig .tc .vmem S128x256 .f32) (harg26 : arg26.IsWhole) (arg27 : Memref sig .tc .vmem S128x128 .f32) (harg27 : arg27.IsWhole) (hc0 : ¬cond0_0 i) (hc1 : ¬cond0_1 i) (hc2 : cond0_2 i) (hc3 : cond0_3 i)
    (x0 : Vec F S1280x1024 .f32) (x1 : Vec F S1280x1024 .f32) (x2 : Vec F S640x1024 .f32) (x3 : Vec F S640x1024 .f32) (x4 : Vec F S512x1024 .f32) (x5 : Vec F S512x1024 .f32) (x6 : Vec F S256x1024 .f32) (x7 : Vec F S128x1024 .f32) (x8 : Vec F S4x1024 .i32) (x9 : Vec F S200x2x1024 .i32) (x10 : Vec F S32x2x1024 .i32) (x11 : Vec F S32x128 .f32) (x12 : Vec F S32x160 .f32) (x13 : Vec F S32x192 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
    intro E K
    simp only [cc0__fused_kernel_eq_skeleton]; unfold cc0__fused_kernel_skel
    simp only [k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _, _; isplitr; swap; · iexact HS6
    ipureintro; rfl

end Cert.Kernel.Whole

end
-- ==== Proof.Whole.Body.lean ====
module

public import proofs.«01_k».proof.Proof.Whole.RunD
public import Idealize.ShloMosaic.Lib.Claim

@[expose] public section

set_option maxRecDepth 16384

noncomputable section

namespace Cert.Kernel.Whole

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (14, 15, 16, 17, 18, 19): nothing reads what the kernel leaves in them, so nothing
    of it is named (Lib/Pipeline/Dat.lean `Dat.toRForget`). -/
def forgets0 : Fin 20 → Bool := fun w => w.val == 14 || w.val == 15 || w.val == 16 || w.val == 17 || w.val == 18 || w.val == 19

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨19, h⟩ => Pipeline.Dat.unnamed (cfg := cfg0) ⟨19, h⟩ t
    | ⟨_ + 20, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d))

set_option maxHeartbeats 9600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 14 := lt_of_lt_of_eq t.isLt (show cfg0.N = 14 from N_0)
  by_cases h0 : t.val % 14 = 0
  · by_cases h1 : t.val < 10
    · by_cases h2 : 10 ≤ t.val
      · exfalso; omega
      · by_cases h3 : t.val % 14 = 13
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8 t], after0_8]
          rw [show (dats m 0 c).leavesExact 9 t = owns (c : Thread nD τ) (ms0_9 t) fullShare ((dats m 0 c).after 9 t) from by
      unfold Dat.leavesExact; rw [liveAt0_9 t], after0_9]
          rw [show (dats m 0 c).leavesExact 10 t = owns (c : Thread nD τ) (ms0_10 t) fullShare ((dats m 0 c).after 10 t) from by
      unfold Dat.leavesExact; rw [liveAt0_10 t], after0_10]
          rw [show (dats m 0 c).leavesExact 11 t = owns (c : Thread nD τ) (ms0_11 t) fullShare ((dats m 0 c).after 11 t) from by
      unfold Dat.leavesExact; rw [liveAt0_11 t], after0_11]
          rw [show (dats m 0 c).leavesExact 12 t = owns (c : Thread nD τ) (ms0_12 t) fullShare ((dats m 0 c).after 12 t) from by
      unfold Dat.leavesExact; rw [liveAt0_12 t], after0_12]
          rw [show (dats m 0 c).leavesExact 13 t = owns (c : Thread nD τ) (ms0_13 t) fullShare ((dats m 0 c).after 13 t) from by
      unfold Dat.leavesExact; rw [liveAt0_13 t], after0_13]
          iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
          iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexists _; iexact H14
          isplitl [H15]; · iexists _; iexact H15
          isplitl [H16]; · iexists _; iexact H16
          isplitl [H17]; · iexists _; iexact H17
          isplitl [H18]; · iexists _; iexact H18
          isplitl [H19]; · iexists _; iexact H19
          isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          iintro ⟨H0, H1, H2, H3, H4, H5, H6, H7, H8, H9, H10, H11, H12, H13, H14, H15, H16, H17, H18, H19, HS0, HS1, HS2, HS3, HS4, HS5, HS6⟩
          isplitl [HS0 HS1 HS2 HS3 HS4 HS5 HS6 Hg]
          · isplitl [HS0 HS1 HS2 HS3 HS4 HS5 HS6]
            · isplitl [HS0]
              · iexact HS0
              isplitl [HS1]
              · iexact HS1
              isplitl [HS2]
              · iexact HS2
              isplitl [HS3]
              · iexact HS3
              isplitl [HS4]
              · iexact HS4
              isplitl [HS5]
              · iexact HS5
              iexact HS6
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexact H16
          isplitl [H17]; · iexact H17
          isplitl [H18]; · iexact H18
          iexact H19
    · exfalso; omega
  · by_cases h1 : t.val < 10
    · by_cases h2 : 10 ≤ t.val
      · exfalso; omega
      · by_cases h3 : t.val % 14 = 13
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8 t], after0_8]
          rw [show (dats m 0 c).leavesExact 9 t = owns (c : Thread nD τ) (ms0_9 t) fullShare ((dats m 0 c).after 9 t) from by
      unfold Dat.leavesExact; rw [liveAt0_9 t], after0_9]
          rw [show (dats m 0 c).leavesExact 10 t = owns (c : Thread nD τ) (ms0_10 t) fullShare ((dats m 0 c).after 10 t) from by
      unfold Dat.leavesExact; rw [liveAt0_10 t], after0_10]
          rw [show (dats m 0 c).leavesExact 11 t = owns (c : Thread nD τ) (ms0_11 t) fullShare ((dats m 0 c).after 11 t) from by
      unfold Dat.leavesExact; rw [liveAt0_11 t], after0_11]
          rw [show (dats m 0 c).leavesExact 12 t = owns (c : Thread nD τ) (ms0_12 t) fullShare ((dats m 0 c).after 12 t) from by
      unfold Dat.leavesExact; rw [liveAt0_12 t], after0_12]
          rw [show (dats m 0 c).leavesExact 13 t = owns (c : Thread nD τ) (ms0_13 t) fullShare ((dats m 0 c).after 13 t) from by
      unfold Dat.leavesExact; rw [liveAt0_13 t], after0_13]
          iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
          iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexists _; iexact H14
          isplitl [H15]; · iexists _; iexact H15
          isplitl [H16]; · iexists _; iexact H16
          isplitl [H17]; · iexists _; iexact H17
          isplitl [H18]; · iexists _; iexact H18
          isplitl [H19]; · iexists _; iexact H19
          isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          iintro ⟨H0, H1, H2, H3, H4, H5, H6, H7, H8, H9, H10, H11, H12, H13, H14, H15, H16, H17, H18, H19, HS0, HS1, HS2, HS3, HS4, HS5, HS6⟩
          isplitl [HS0 HS1 HS2 HS3 HS4 HS5 HS6 Hg]
          · isplitl [HS0 HS1 HS2 HS3 HS4 HS5 HS6]
            · isplitl [HS0]
              · iexact HS0
              isplitl [HS1]
              · iexact HS1
              isplitl [HS2]
              · iexact HS2
              isplitl [HS3]
              · iexact HS3
              isplitl [HS4]
              · iexact HS4
              isplitl [HS5]
              · iexact HS5
              iexact HS6
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexact H16
          isplitl [H17]; · iexact H17
          isplitl [H18]; · iexact H18
          iexact H19
    · by_cases h2 : 10 ≤ t.val
      · by_cases h3 : t.val % 14 = 13
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8 t], after0_8]
          rw [show (dats m 0 c).leavesExact 9 t = owns (c : Thread nD τ) (ms0_9 t) fullShare ((dats m 0 c).after 9 t) from by
      unfold Dat.leavesExact; rw [liveAt0_9 t], after0_9]
          rw [show (dats m 0 c).leavesExact 10 t = owns (c : Thread nD τ) (ms0_10 t) fullShare ((dats m 0 c).after 10 t) from by
      unfold Dat.leavesExact; rw [liveAt0_10 t], after0_10]
          rw [show (dats m 0 c).leavesExact 11 t = owns (c : Thread nD τ) (ms0_11 t) fullShare ((dats m 0 c).after 11 t) from by
      unfold Dat.leavesExact; rw [liveAt0_11 t], after0_11]
          rw [show (dats m 0 c).leavesExact 12 t = owns (c : Thread nD τ) (ms0_12 t) fullShare ((dats m 0 c).after 12 t) from by
      unfold Dat.leavesExact; rw [liveAt0_12 t], after0_12]
          rw [show (dats m 0 c).leavesExact 13 t = owns (c : Thread nD τ) (ms0_13 t) fullShare ((dats m 0 c).after 13 t) from by
      unfold Dat.leavesExact; rw [liveAt0_13 t], after0_13]
          iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
          iapply ((kernelRun0_D c (grid0.coords t) _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexists _; iexact H14
          isplitl [H15]; · iexists _; iexact H15
          isplitl [H16]; · iexists _; iexact H16
          isplitl [H17]; · iexists _; iexact H17
          isplitl [H18]; · iexists _; iexact H18
          isplitl [H19]; · iexists _; iexact H19
          isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          iintro ⟨H0, H1, H2, H3, H4, H5, H6, H7, H8, H9, H10, H11, H12, H13, H14, H15, H16, H17, H18, H19, HS0, HS1, HS2, HS3, HS4, HS5, HS6⟩
          isplitl [HS0 HS1 HS2 HS3 HS4 HS5 HS6 Hg]
          · isplitl [HS0 HS1 HS2 HS3 HS4 HS5 HS6]
            · isplitl [HS0]
              · iexact HS0
              isplitl [HS1]
              · iexact HS1
              isplitl [HS2]
              · iexact HS2
              isplitl [HS3]
              · iexact HS3
              isplitl [HS4]
              · iexact HS4
              isplitl [HS5]
              · iexact HS5
              iexact HS6
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexact H16
          isplitl [H17]; · iexact H17
          isplitl [H18]; · iexact H18
          iexact H19
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8 t], after0_8]
          rw [show (dats m 0 c).leavesExact 9 t = owns (c : Thread nD τ) (ms0_9 t) fullShare ((dats m 0 c).after 9 t) from by
      unfold Dat.leavesExact; rw [liveAt0_9 t], after0_9]
          rw [show (dats m 0 c).leavesExact 10 t = owns (c : Thread nD τ) (ms0_10 t) fullShare ((dats m 0 c).after 10 t) from by
      unfold Dat.leavesExact; rw [liveAt0_10 t], after0_10]
          rw [show (dats m 0 c).leavesExact 11 t = owns (c : Thread nD τ) (ms0_11 t) fullShare ((dats m 0 c).after 11 t) from by
      unfold Dat.leavesExact; rw [liveAt0_11 t], after0_11]
          rw [show (dats m 0 c).leavesExact 12 t = owns (c : Thread nD τ) (ms0_12 t) fullShare ((dats m 0 c).after 12 t) from by
      unfold Dat.leavesExact; rw [liveAt0_12 t], after0_12]
          rw [show (dats m 0 c).leavesExact 13 t = owns (c : Thread nD τ) (ms0_13 t) fullShare ((dats m 0 c).after 13 t) from by
      unfold Dat.leavesExact; rw [liveAt0_13 t], after0_13]
          iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
          iapply ((kernelRun0_C c (grid0.coords t) _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexists _; iexact H14
          isplitl [H15]; · iexists _; iexact H15
          isplitl [H16]; · iexists _; iexact H16
          isplitl [H17]; · iexists _; iexact H17
          isplitl [H18]; · iexists _; iexact H18
          isplitl [H19]; · iexists _; iexact H19
          isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          iintro ⟨H0, H1, H2, H3, H4, H5, H6, H7, H8, H9, H10, H11, H12, H13, H14, H15, H16, H17, H18, H19, HS0, HS1, HS2, HS3, HS4, HS5, HS6⟩
          isplitl [HS0 HS1 HS2 HS3 HS4 HS5 HS6 Hg]
          · isplitl [HS0 HS1 HS2 HS3 HS4 HS5 HS6]
            · isplitl [HS0]
              · iexact HS0
              isplitl [HS1]
              · iexact HS1
              isplitl [HS2]
              · iexact HS2
              isplitl [HS3]
              · iexact HS3
              isplitl [HS4]
              · iexact HS4
              isplitl [HS5]
              · iexact HS5
              iexact HS6
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexact H16
          isplitl [H17]; · iexact H17
          isplitl [H18]; · iexact H18
          iexact H19
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

end Cert.Kernel.Whole
-- ==== Proof.Whole.Frame.lean ====
module

public import proofs.«01_k».proof.Proof.Whole.Body
public import Idealize.ShloMosaic.Lib.Claim

@[expose] public section

set_option maxRecDepth 16384

noncomputable section

namespace Cert.Kernel.Whole

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The buffers the lines after the region WRITE, as references: results computed from contents the run does not name
    (an operand the body wrote by its own DMA, or a forgotten output), so nothing is stated of them either. -/
def T0 : Finset (Ref sig .tc) := {main_c, main_c_0, main_c_1, main_v23, main_v24, main_v25, main_v26, main_v27, main_v28, main_v29, main_v30, main_v31, main_v32, main_v33, main_v34, main_v35, main_v36, main_v37, main_v38, main_v39, main_v40}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-! ## The frame claim's post from the frame run's -/

set_option maxHeartbeats 1200000 in
/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c),
      ((h c).2 main_arg7 (Finset.mem_sdiff.mpr ⟨Pipeline.mem_restRefs_of main_arg7 (by decide) (by decide), by decide⟩)).trans (V_main_arg7 m c),
      ((h c).2 main_arg8 (Finset.mem_sdiff.mpr ⟨Pipeline.mem_restRefs_of main_arg8 (by decide) (by decide), by decide⟩)).trans (V_main_arg8 m c),
      ((h c).2 main_arg9 (Finset.mem_sdiff.mpr ⟨Pipeline.mem_restRefs_of main_arg9 (by decide) (by decide), by decide⟩)).trans (V_main_arg9 m c),
      ((h c).2 main_arg10 (Finset.mem_sdiff.mpr ⟨Pipeline.mem_restRefs_of main_arg10 (by decide) (by decide), by decide⟩)).trans (V_main_arg10 m c),
      ((h c).2 main_arg11 (Finset.mem_sdiff.mpr ⟨Pipeline.mem_restRefs_of main_arg11 (by decide) (by decide), by decide⟩)).trans (V_main_arg11 m c),
      ((h c).2 main_arg12 (Finset.mem_sdiff.mpr ⟨Pipeline.mem_restRefs_of main_arg12 (by decide) (by decide), by decide⟩)).trans (V_main_arg12 m c),
      ((h c).2 main_arg13 (Finset.mem_sdiff.mpr ⟨Pipeline.mem_restRefs_of main_arg13 (by decide) (by decide), by decide⟩)).trans (V_main_arg13 m c)⟩) h

/-! ## The run and the frame -/

-- `θ_run_frame_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 14, 15, 16, 17, 18, 19) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (fun c => (dats m 0 c).toRForget forgets0) (A_eq m) (run_main m ρ)

/-- THE FRAME: `Cert.quiescent_Kernel`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ) ((θ_run defs _ _).mono (fun _ h => h.2) (run_main_quiescent m ρ))

end Cert.Kernel.Whole

end
-- ==== Proof.Kern.Facts.lean ====
module

public import proofs.«01_k».proof.Proof.Gen.KernelIdeal.Frame

/-! When each part of the body runs, which outputs a grid point leaves alone, and the scratch buffers. -/

@[expose] public section

set_option maxRecDepth 16384

noncomputable section

namespace Cert.KernelIdeal.Kern

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ (UR sig nD τ) ℕ

abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 14 = 0 :=
  (fun t => by
    have ht : t.val < 14 := Nat.lt_of_lt_of_eq t.isLt N_0
    have e0 : (grid0.coords t 0).val = t.val / 1 % 14 := Pipeline.Grid.coords_val t 0 (by decide) rfl
    simp only [cond0_0, e0]
    word_cmp
   : ∀ t : Fin grid0.N, cond0_0 (grid0.coords t) ↔ t.val % 14 = 0)

/-- The condition of the body's `scf.if` 1 (`k0_h2`), from the grid coordinates (the skeleton's scalar
    chain substituted). -/
abbrev cond0_1 (i : grid0.Coords) : Prop := k0_cond2 i = 1#1
/-- It holds at the points before point 10 — decided over the grid. -/
theorem hcond0_1 : ∀ t : Fin cfg0.N, cond0_1 (grid0.coords t) ↔ t.val < 10 :=
  (by decide +kernel : ∀ t : Fin grid0.N, cond0_1 (grid0.coords t) ↔ t.val < 10)

/-- The condition of the body's `scf.if` 2 (`k0_h3`), from the grid coordinates (the skeleton's scalar
    chain substituted). -/
abbrev cond0_2 (i : grid0.Coords) : Prop := k0_cond3 i = 1#1
/-- It holds at the points from point 10 on — decided over the grid. -/
theorem hcond0_2 : ∀ t : Fin cfg0.N, cond0_2 (grid0.coords t) ↔ 10 ≤ t.val :=
  (by decide +kernel : ∀ t : Fin grid0.N, cond0_2 (grid0.coords t) ↔ 10 ≤ t.val)

/-- The condition of the body's `scf.if` 3 (`k0_h4`), from the grid coordinates (the skeleton's scalar
    chain substituted). -/
abbrev cond0_3 (i : grid0.Coords) : Prop := k0_cond4 i = 1#1
/-- It holds at the last point only — by arithmetic of the point. -/
theorem hcond0_3 : ∀ t : Fin cfg0.N, cond0_3 (grid0.coords t) ↔ t.val % 14 = 13 :=
  (fun t => by
    have ht : t.val < 14 := Nat.lt_of_lt_of_eq t.isLt N_0
    have e0 : (grid0.coords t 0).val = t.val / 1 % 14 := Pipeline.Grid.coords_val t 0 (by decide) rfl
    simp only [cond0_3, k0_cond4, e0]
    word_cmp
   : ∀ t : Fin grid0.N, cond0_3 (grid0.coords t) ↔ t.val % 14 = 13)

/-! ## Where the windows are idle (the printed configuration's table `Cfg.idle`) -/

/-- Every input is live at every point. -/
theorem live_in (w : Fin cfg0.W) (hw : w.val < 14) : ∀ i, cfg0.idle w i = false := by
  intro i
  match w, hw with
  | ⟨0, _⟩, _ => rfl
  | ⟨1, _⟩, _ => rfl
  | ⟨2, _⟩, _ => rfl
  | ⟨3, _⟩, _ => rfl
  | ⟨4, _⟩, _ => rfl
  | ⟨5, _⟩, _ => rfl
  | ⟨6, _⟩, _ => rfl
  | ⟨7, _⟩, _ => rfl
  | ⟨8, _⟩, _ => rfl
  | ⟨9, _⟩, _ => rfl
  | ⟨10, _⟩, _ => rfl
  | ⟨11, _⟩, _ => rfl
  | ⟨12, _⟩, _ => rfl
  | ⟨13, _⟩, _ => rfl

/-- The history output is stored into at the first ten points and at no other. -/
theorem idle_hist : ∀ t : Fin cfg0.N, cfg0.idle 14 (grid0.coords t) = decide (10 ≤ t.val) :=
  (by decide +kernel : ∀ t : Fin grid0.N, cfg0.idle 14 (grid0.coords t) = decide (10 ≤ t.val))

/-- The candidate output is stored into at the last four points and at no other. -/
theorem idle_cand : ∀ t : Fin cfg0.N, cfg0.idle 15 (grid0.coords t) = decide (t.val < 10) :=
  (by decide +kernel : ∀ t : Fin grid0.N, cfg0.idle 15 (grid0.coords t) = decide (t.val < 10))

/-- The history output is written back after each of the first nine points and after the last. -/
theorem flush_hist : ∀ t : Fin cfg0.N, (cfg0.win 14).flush t = decide (t.val < 9 ∨ t.val = 13) :=
  (by decide +kernel : ∀ t : Fin grid0.N, (cfg0.win 14).flush t = decide (t.val < 9 ∨ t.val = 13))

/-- The candidate output is written back after each of the last four points. -/
theorem flush_cand : ∀ t : Fin cfg0.N, (cfg0.win 15).flush t = decide (10 ≤ t.val) :=
  (by decide +kernel : ∀ t : Fin grid0.N, (cfg0.win 15).flush t = decide (10 ≤ t.val))

/-- The user output is stored into at the last point only. -/
theorem idle_16 : ∀ t : Fin cfg0.N, cfg0.idle 16 (grid0.coords t) = decide (t.val ≠ 13) :=
  (by decide +kernel : ∀ t : Fin grid0.N, cfg0.idle 16 (grid0.coords t) = decide (t.val ≠ 13))
/-- The user output is written back after the last point only. -/
theorem flush_16 : ∀ t : Fin cfg0.N, (cfg0.win 16).flush t = decide (t.val = 13) :=
  (by decide +kernel : ∀ t : Fin grid0.N, (cfg0.win 16).flush t = decide (t.val = 13))

/-- The user mask output is stored into at the last point only. -/
theorem idle_17 : ∀ t : Fin cfg0.N, cfg0.idle 17 (grid0.coords t) = decide (t.val ≠ 13) :=
  (by decide +kernel : ∀ t : Fin grid0.N, cfg0.idle 17 (grid0.coords t) = decide (t.val ≠ 13))
/-- The user mask output is written back after the last point only. -/
theorem flush_17 : ∀ t : Fin cfg0.N, (cfg0.win 17).flush t = decide (t.val = 13) :=
  (by decide +kernel : ∀ t : Fin grid0.N, (cfg0.win 17).flush t = decide (t.val = 13))

/-- The history mask output is stored into at the last point only. -/
theorem idle_18 : ∀ t : Fin cfg0.N, cfg0.idle 18 (grid0.coords t) = decide (t.val ≠ 13) :=
  (by decide +kernel : ∀ t : Fin grid0.N, cfg0.idle 18 (grid0.coords t) = decide (t.val ≠ 13))
/-- The history mask output is written back after the last point only. -/
theorem flush_18 : ∀ t : Fin cfg0.N, (cfg0.win 18).flush t = decide (t.val = 13) :=
  (by decide +kernel : ∀ t : Fin grid0.N, (cfg0.win 18).flush t = decide (t.val = 13))

/-- The candidate mask output is stored into at the last point only. -/
theorem idle_19 : ∀ t : Fin cfg0.N, cfg0.idle 19 (grid0.coords t) = decide (t.val ≠ 13) :=
  (by decide +kernel : ∀ t : Fin grid0.N, cfg0.idle 19 (grid0.coords t) = decide (t.val ≠ 13))
/-- The candidate mask output is written back after the last point only. -/
theorem flush_19 : ∀ t : Fin cfg0.N, (cfg0.win 19).flush t = decide (t.val = 13) :=
  (by decide +kernel : ∀ t : Fin grid0.N, (cfg0.win 19).flush t = decide (t.val = 13))

/-- The scratch operands: whole scoped buffers of the kernel's own, passed beside the windows. -/
abbrev scM0_0 : Memref sig .tc .vmem S128x256 .f32 := Memref.whole cc0_scratch0
abbrev scM0_1 : Memref sig .tc .vmem S128x256 .f32 := Memref.whole cc0_scratch1
abbrev scM0_2 : Memref sig .tc .vmem S128x128 .f32 := Memref.whole cc0_scratch2
abbrev scM0_3 : Memref sig .tc .vmem S128x128 .f32 := Memref.whole cc0_scratch3
abbrev scM0_4 : Memref sig .tc .vmem S128x256 .f32 := Memref.whole cc0_scratch4
abbrev scM0_5 : Memref sig .tc .vmem S128x256 .f32 := Memref.whole cc0_scratch5
abbrev scM0_6 : Memref sig .tc .vmem S128x128 .f32 := Memref.whole cc0_scratch6

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

end Cert.KernelIdeal.Kern

end
-- ==== Proof.Kern.Parts.lean ====
module

public import proofs.«01_k».proof.Proof.Gen.KernelIdeal.Skeleton
public import proofs.«01_k».proof.Proof.Gen.KernelIdeal.Frame

/-! The kernel body as four parts in a row, each run or passed by at a grid point. -/

@[expose] public section

set_option maxRecDepth 65536

noncomputable section

namespace Cert.KernelIdeal.Kern

open Idealize.ShloMosaic Idealize.SL.Sem Cert.KernelIdeal.Gen

variable {F : FTy → Type} [FloatOps F]
variable (i : grid0.Coords)
variable (arg1 : Memref sig .tc .vmem S1280x1024 .f32) (harg1 : arg1.IsWhole)
  (arg2 : Memref sig .tc .vmem S1280x1024 .f32) (harg2 : arg2.IsWhole)
  (arg3 : Memref sig .tc .vmem S640x1024 .f32) (harg3 : arg3.IsWhole)
  (arg4 : Memref sig .tc .vmem S640x1024 .f32) (harg4 : arg4.IsWhole)
  (arg5 : Memref sig .tc .vmem S512x1024 .f32) (harg5 : arg5.IsWhole)
  (arg6 : Memref sig .tc .vmem S512x1024 .f32) (harg6 : arg6.IsWhole)
  (arg7 : Memref sig .tc .vmem S256x1024 .f32) (harg7 : arg7.IsWhole)
  (arg8 : Memref sig .tc .vmem S128x1024 .f32) (harg8 : arg8.IsWhole)
  (arg9 : Memref sig .tc .vmem S4x1024 .i32) (harg9 : arg9.IsWhole)
  (arg10 : Memref sig .tc .vmem S200x2x1024 .i32) (harg10 : arg10.IsWhole)
  (arg11 : Memref sig .tc .vmem S32x2x1024 .i32) (harg11 : arg11.IsWhole)
  (arg12 : Memref sig .tc .vmem S32x128 .f32) (harg12 : arg12.IsWhole)
  (arg13 : Memref sig .tc .vmem S32x160 .f32) (harg13 : arg13.IsWhole)
  (arg14 : Memref sig .tc .vmem S32x192 .f32) (harg14 : arg14.IsWhole)
  (arg15 : Memref sig .tc .vmem S640x1024 .f32) (harg15 : arg15.IsWhole)
  (arg16 : Memref sig .tc .vmem S256x1024 .f32) (harg16 : arg16.IsWhole)
  (arg17 : Memref sig .tc .vmem S32x1024 .f32) (harg17 : arg17.IsWhole)
  (arg18 : Memref sig .tc .vmem S1x1024 .i32) (harg18 : arg18.IsWhole)
  (arg19 : Memref sig .tc .vmem S200x1024 .i32) (harg19 : arg19.IsWhole)
  (arg20 : Memref sig .tc .vmem S32x1024 .i32) (harg20 : arg20.IsWhole)
  (arg21 : Memref sig .tc .vmem S128x256 .f32) (harg21 : arg21.IsWhole)
  (arg22 : Memref sig .tc .vmem S128x256 .f32) (harg22 : arg22.IsWhole)
  (arg23 : Memref sig .tc .vmem S128x128 .f32) (harg23 : arg23.IsWhole)
  (arg24 : Memref sig .tc .vmem S128x128 .f32) (harg24 : arg24.IsWhole)
  (arg25 : Memref sig .tc .vmem S128x256 .f32) (harg25 : arg25.IsWhole)
  (arg26 : Memref sig .tc .vmem S128x256 .f32) (harg26 : arg26.IsWhole)
  (arg27 : Memref sig .tc .vmem S128x128 .f32) (harg27 : arg27.IsWhole)

/-- The first step: the seven block diagonal weight buffers are filled from the two transposed weight matrices. -/
def fillPart : Prog (TpuEff nD τ sig (Elt F) Λ₀ .tc) PUnit := do
  let v118 : FVec F S32x32 .f32 ← k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27
  Prog.lift (.store arg27 (Rect.unit (s := S128x128) ![96, 96] S32x32.size inb_S128x128_S32x32_96_96) (k0_pay1 v118) Finset.univ (View.stores_vmem_bits_univ h_S32x32 rfl) (.inl rfl))
  pure ⟨⟩

/-- A history step: the five groups of rows of the history block. -/
def histPart : Prog (TpuEff nD τ sig (Elt F) Λ₀ .tc) PUnit := do
  let ⟨v35, v36, v38, cst_33⟩ : Σ' (v35 : FVec F S128x1024 .f32) (v36 : Vec F S128x256 .f32) (v38 : FVec F S256x1024 .f32), FVec F S128x1024 .f32 ← k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27
  let ⟨v65, v66⟩ : Σ' (v65 : FVec F S128x1024 .f32), Vec F S128x128 .f32 ← k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v35 v36 v38 cst_33
  let ⟨v92, v94, cst_89⟩ : Σ' (v92 : Vec F S128x256 .f32) (v94 : FVec F S256x1024 .f32), FVec F S128x1024 .f32 ← k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v65 v66
  let v96 : Vec F S128x256 .f32 ← Prog.lift (.load arg22 (Rect.unit (s := S128x256) ![0, 0] S128x256.size inb_S128x256_S128x256_0_0).toLoadRect (View.loadsAt_vmem h_S128x256))
  let v97 : Vec F S256x1024 .f32 ← Prog.lift (.load arg2 (Rect.unit (s := S1280x1024) ![1024, 0] S256x1024.size inb_S1280x1024_S256x1024_1024_0).toLoadRect (View.loadsAt_vmem h_S256x1024))
  let v101 : Vec F S128x128 .f32 ← Prog.lift (.load arg23 (Rect.unit (s := S128x128) ![0, 0] S128x128.size inb_S128x128_S128x128_0_0).toLoadRect (View.loadsAt_vmem h_S128x128))
  let v102 : Vec F S128x1024 .f32 ← Prog.lift (.load arg3 (Rect.unit (s := S640x1024) ![512, 0] S128x1024.size inb_S640x1024_S128x1024_512_0).toLoadRect (View.loadsAt_vmem h_S128x1024))
  let v106 : Vec F S128x128 .f32 ← Prog.lift (.load arg24 (Rect.unit (s := S128x128) ![0, 0] S128x128.size inb_S128x128_S128x128_0_0).toLoadRect (View.loadsAt_vmem h_S128x128))
  let v107 : Vec F S128x1024 .f32 ← Prog.lift (.load arg4 (Rect.unit (s := S640x1024) ![512, 0] S128x1024.size inb_S640x1024_S128x1024_512_0).toLoadRect (View.loadsAt_vmem h_S128x1024))
  let v111 : Vec F S128x1024 .f32 ← Prog.lift (.load arg15 (Rect.unit (s := S640x1024) ![512, 0] S128x1024.size inb_S640x1024_S128x1024_512_0).toLoadRect (View.loadsAt_vmem h_S128x1024))
  Prog.lift (.store arg15 (Rect.unit (s := S640x1024) ![512, 0] S128x1024.size inb_S640x1024_S128x1024_512_0) (k0_pay2 v92 v94 cst_89 v96 v97 v101 v102 v106 v107) Finset.univ (View.stores_vmem_bits_univ h_S128x1024 rfl) (.inl rfl))
  pure ⟨⟩

/-- A candidate step: the two groups of rows of the candidate block. -/
def candPart : Prog (TpuEff nD τ sig (Elt F) Λ₀ .tc) PUnit := do
  let ⟨v35, v36, v38, cst_32⟩ : Σ' (v35 : FVec F S128x1024 .f32) (v36 : Vec F S128x128 .f32) (v38 : FVec F S128x1024 .f32), FVec F S128x1024 .f32 ← k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27
  let v41 : Vec F S128x1024 .f32 ← Prog.lift (.load arg16 (Rect.unit (s := S256x1024) ![128, 0] S128x1024.size inb_S256x1024_S128x1024_128_0).toLoadRect (View.loadsAt_vmem h_S128x1024))
  Prog.lift (.store arg16 (Rect.unit (s := S256x1024) ![128, 0] S128x1024.size inb_S256x1024_S128x1024_128_0) (k0_pay3 v35 v36 v38 cst_32) Finset.univ (View.stores_vmem_bits_univ h_S128x1024 rfl) (.inl rfl))
  pure ⟨⟩

/-- The last step: the user rows and the three masks. -/
def lastPart : Prog (TpuEff nD τ sig (Elt F) Λ₀ .tc) PUnit := do
  let v12 : Vec F S32x128 .f32 ← Prog.lift (.load arg12 (Rect.unit (s := S32x128) ![0, 0] S32x128.size inb_S32x128_S32x128_0_0).toLoadRect (View.loadsAt_vmem h_S32x128))
  let v14 : Vec F S128x1024 .f32 ← Prog.lift (.load arg8 (Rect.unit (s := S128x1024) ![0, 0] S128x1024.size inb_S128x1024_S128x1024_0_0).toLoadRect (View.loadsAt_vmem h_S128x1024))
  let v17 : Vec F S32x1024 .f32 ← Prog.lift (.load arg17 (Rect.unit (s := S32x1024) ![0, 0] S32x1024.size inb_S32x1024_S32x1024_0_0).toLoadRect (View.loadsAt_vmem h_S32x1024))
  Prog.lift (.store arg17 (Rect.unit (s := S32x1024) ![0, 0] S32x1024.size inb_S32x1024_S32x1024_0_0) (k0_pay4 v12 v14) Finset.univ (View.stores_vmem_bits_univ h_S32x1024 rfl) (.inl rfl))
  let v18 : Vec F S1x1024 .i32 ← Prog.lift (.load arg9 (Rect.unit (s := S4x1024) ![0, 0] S1x1024.size inb_S4x1024_S1x1024_0_0).toLoadRect (View.loadsAt_vmem h_S1x1024))
  let v22 : Vec F S1x1024 .i32 ← Prog.lift (.load arg18 (Rect.unit (s := S1x1024) ![0, 0] S1x1024.size inb_S1x1024_S1x1024_0_0).toLoadRect (View.loadsAt_vmem h_S1x1024))
  Prog.lift (.store arg18 (Rect.unit (s := S1x1024) ![0, 0] S1x1024.size inb_S1x1024_S1x1024_0_0) (k0_pay5 v18) Finset.univ (View.stores_vmem_bits_univ h_S1x1024 rfl) (.inl rfl))
  let v25 : Vec F S200x1x1024 .i32 ← Prog.lift (.load arg10 (Rect.unit (s := S200x2x1024) ![0, 0, 0] S200x1x1024.size inb_S200x2x1024_S200x1x1024_0_0_0).toLoadRect (View.loadsAt_vmem h_S200x1x1024))
  let v29 : Vec F S200x1024 .i32 ← Prog.lift (.load arg19 (Rect.unit (s := S200x1024) ![0, 0] S200x1024.size inb_S200x1024_S200x1024_0_0).toLoadRect (View.loadsAt_vmem h_S200x1024))
  Prog.lift (.store arg19 (Rect.unit (s := S200x1024) ![0, 0] S200x1024.size inb_S200x1024_S200x1024_0_0) (k0_pay6 v25) Finset.univ (View.stores_vmem_bits_univ h_S200x1024 rfl) (.inl rfl))
  let v32 : Vec F S32x1x1024 .i32 ← Prog.lift (.load arg11 (Rect.unit (s := S32x2x1024) ![0, 0, 0] S32x1x1024.size inb_S32x2x1024_S32x1x1024_0_0_0).toLoadRect (View.loadsAt_vmem h_S32x1x1024))
  let v36 : Vec F S32x1024 .i32 ← Prog.lift (.load arg20 (Rect.unit (s := S32x1024) ![0, 0] S32x1024.size inb_S32x1024_S32x1024_0_0).toLoadRect (View.loadsAt_vmem h_S32x1024))
  Prog.lift (.store arg20 (Rect.unit (s := S32x1024) ![0, 0] S32x1024.size inb_S32x1024_S32x1024_0_0) (k0_pay7 v32) Finset.univ (View.stores_vmem_bits_univ h_S32x1024 rfl) (.inl rfl))
  pure ⟨⟩

/-- The body is the four parts in a row: the first at point 0, the second before point 10, the third from point 10 on, the
    last at point 13. -/
theorem body_eq : cc0__fused_kernel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 =
    (if (Scalar.cmpi .ne (Scalar.extui (Scalar.cmpi .eq (BitVec.ofNat 32 (i 0).val) 0#32)) 0#32) = 1#1 then fillPart i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 else pure ⟨⟩) >>= fun _ =>
    (if k0_cond2 i = 1#1 then histPart i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 else pure ⟨⟩) >>= fun _ =>
    (if k0_cond3 i = 1#1 then candPart i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 else pure ⟨⟩) >>= fun _ =>
    (if k0_cond4 i = 1#1 then lastPart arg8 arg9 arg10 arg11 arg12 arg17 arg18 arg19 arg20 else pure ⟨⟩) := by
  rw [cc0__fused_kernel_eq_skeleton]
  unfold cc0__fused_kernel_skel fillPart histPart candPart lastPart
  by_cases h₁ : (Scalar.cmpi .ne (Scalar.extui (Scalar.cmpi .eq (BitVec.ofNat 32 (i 0).val) 0#32)) 0#32) = 1#1 <;>
  by_cases h₂ : k0_cond2 i = 1#1 <;> by_cases h₃ : k0_cond3 i = 1#1 <;> by_cases h₄ : k0_cond4 i = 1#1 <;>
  simp only [h₁, h₂, h₃, h₄, dite_true, dite_false, if_true, if_false, bind_assoc, pure_bind]

end Cert.KernelIdeal.Kern

end
-- ==== Proof.Kern.Blocks.lean ====
module

public import proofs.«01_k».proof.Proof.Kern.Parts
public import Idealize.ShloMosaic.Lib.Pointwise
public import Idealize.ShloMosaic.Lib.Pipeline.ValueKit

/-! The arrays the body works on, as functions of their indices: bands of rows, block diagonal weights, and what
    several stores into one buffer leave. -/

@[expose] public section

set_option maxRecDepth 16384

noncomputable section

namespace Cert.KernelIdeal.Kern

open Idealize.ShloMosaic Idealize.SL.Sem Cert.KernelIdeal.Gen

variable {F : FTy → Type} [FloatOps F]

/-- The `h` rows of a 1024 column array from row `n` on (row numbers taken modulo the height). -/
def rowsAt {φ : EltTy} {R : ℕ} (h : ℕ) (n : ℕ) (hR : 0 < R) (x : Vec F ⟨2, ![R, 1024]⟩ φ) : Vec F ⟨2, ![h, 1024]⟩ φ :=
  fun z => x (ix2 ⟨(n + (z 0).val) % R, Nat.mod_lt _ hR⟩ ⟨(z 1).val, (z 1).isLt⟩)

/-- A load of `h` whole rows from row `n` on reads those rows of what the buffer holds. -/
theorem readAt_rows {φ : EltTy} {R : ℕ} (h n : ℕ) (hR : 0 < R) (v : Memref sig .tc .vmem ⟨2, ![R, 1024]⟩ φ) (hv : v.IsWhole)
    (x : Vec F ⟨2, ![R, 1024]⟩ φ) (inb : ∀ a, (![n, 0] : Fin 2 → ℕ) a + (![h, 1024] : Fin 2 → ℕ) a ≤ (⟨2, ![R, 1024]⟩ : Shape).size a) :
    View.readAt (Elt F) v.view (Rect.unit (s := ⟨2, ![R, 1024]⟩) ![n, 0] ![h, 1024] inb).toLoadRect (hv.unread x) = rowsAt h n hR x := by
  rw [View.readAt_eq_ld, hv.read_unread]
  funext z
  refine View.ld_unit_apply_of x _ _ inb z _ fun a => ?_
  have h0 : n + h ≤ R := inb 0
  have hz : (z 0).val < h := (z 0).isLt
  match a with
  | ⟨0, _⟩ => exact Nat.mod_eq_of_lt (by omega : n + (z 0).val < R)
  | ⟨1, _⟩ => exact (Nat.zero_add _).symm

/-- A load of a whole two axis buffer reads what it holds. -/
theorem readAt_whole {φ : EltTy} {R C : ℕ} (v : Memref sig .tc .vmem ⟨2, ![R, C]⟩ φ) (hv : v.IsWhole)
    (x : Vec F ⟨2, ![R, C]⟩ φ) (inb : ∀ a, (![0, 0] : Fin 2 → ℕ) a + (![R, C] : Fin 2 → ℕ) a ≤ (⟨2, ![R, C]⟩ : Shape).size a) :
    View.readAt (Elt F) v.view (Rect.unit (s := ⟨2, ![R, C]⟩) ![0, 0] ![R, C] inb).toLoadRect (hv.unread x) = x := by
  rw [View.readAt_eq_ld, hv.read_unread]
  exact View.ld_unit_zero (S := ⟨2, ![R, C]⟩) (funext fun a => match a with | ⟨0, _⟩ => rfl | ⟨1, _⟩ => rfl) inb x

/-- The block diagonal array of height 128 with four copies of `w` down its diagonal and `z` elsewhere. -/
def bdiag {φ : EltTy} {N k : ℕ} (hk : 0 < k) (z : Elt F φ) (w : Vec F ⟨2, ![32, k]⟩ φ) : Vec F ⟨2, ![128, N]⟩ φ :=
  fun y => if (y 0).val / 32 = (y 1).val / k then
    w (ix2 ⟨(y 0).val % 32, Nat.mod_lt _ (by decide)⟩ ⟨(y 1).val % k, Nat.mod_lt _ hk⟩) else z

/-- One store read back: off its rectangle the earlier stores decide, on it its own payload. -/
theorem canon_step {φ : EltTy} {s : Shape} (r : Rect s) (w : r.shape.Idx → Elt F φ) (L : List (View.Piece (Elt F) s φ)) (y : s.Idx) (v : Elt F φ)
    (hin : ∀ x, r.emb x = y → w x = v) (hout : y ∉ r.set → View.canon L y = v) : View.canon (⟨r, w⟩ :: L) y = v := by
  by_cases h : y ∈ r.set
  · obtain ⟨x, hx⟩ : ∃ x, r.emb x = y := by
      exact r.exists_idx_of_mem h
    rw [← hx, View.canon_cons_emb]; exact hin x hx
  · rw [View.canon_cons_of_not_mem _ _ h]; exact hout h

/-- Four stores of `w` down the diagonal after a store of `z` everywhere leave the block diagonal array. -/
theorem canon_bdiag {φ : EltTy} {N k : ℕ} (hk : 0 < k) (hN : N = 4 * k) (o1 o2 o3 : ℕ) (h1 : k = o1) (h2 : 2 * k = o2) (h3 : 3 * k = o3)
    (i3 : ∀ a, (![96, o3] : Fin 2 → ℕ) a + (![32, k] : Fin 2 → ℕ) a ≤ (⟨2, ![128, N]⟩ : Shape).size a)
    (i2 : ∀ a, (![64, o2] : Fin 2 → ℕ) a + (![32, k] : Fin 2 → ℕ) a ≤ (⟨2, ![128, N]⟩ : Shape).size a)
    (i1 : ∀ a, (![32, o1] : Fin 2 → ℕ) a + (![32, k] : Fin 2 → ℕ) a ≤ (⟨2, ![128, N]⟩ : Shape).size a)
    (i0 : ∀ a, (![0, 0] : Fin 2 → ℕ) a + (![32, k] : Fin 2 → ℕ) a ≤ (⟨2, ![128, N]⟩ : Shape).size a)
    (iw : ∀ a, (![0, 0] : Fin 2 → ℕ) a + (![128, N] : Fin 2 → ℕ) a ≤ (⟨2, ![128, N]⟩ : Shape).size a)
    (z : Elt F φ) (w : Vec F ⟨2, ![32, k]⟩ φ) :
    View.canon (Val := Elt F) (s := ⟨2, ![128, N]⟩) (e := φ) [⟨Rect.unit ![96, o3] ![32, k] i3, w⟩, ⟨Rect.unit ![64, o2] ![32, k] i2, w⟩,
      ⟨Rect.unit ![32, o1] ![32, k] i1, w⟩, ⟨Rect.unit ![0, 0] ![32, k] i0, w⟩, ⟨Rect.unit ![0, 0] ![128, N] iw, fun _ => z⟩] = bdiag hk z w := by
  subst h2 h3 hN h1
  have key : ∀ (b : ℕ) (o : Fin 2 → ℕ) (ho : o = ![32 * b, b * k]) (inb) (x : (Rect.unit (s := ⟨2, ![128, 4 * k]⟩) o ![32, k] inb).shape.Idx) (y : (⟨2, ![128, 4 * k]⟩ : Shape).Idx),
      (Rect.unit (s := ⟨2, ![128, 4 * k]⟩) o ![32, k] inb).emb x = y → w x = bdiag hk z w y := by
    intro b o ho inb x y hx
    subst ho; subst hx
    have x0 : (x 0).val < 32 := (x 0).isLt
    have x1 : (x 1).val < k := (x 1).isLt
    have e0 : ((Rect.unit (s := ⟨2, ![128, 4 * k]⟩) ![32 * b, b * k] ![32, k] inb).emb x 0).val = 32 * b + (x 0).val := Rect.idx_unit_val _ _ _ _ _
    have e1 : ((Rect.unit (s := ⟨2, ![128, 4 * k]⟩) ![32 * b, b * k] ![32, k] inb).emb x 1).val = b * k + (x 1).val := Rect.idx_unit_val _ _ _ _ _
    have d1 : (b * k + (x 1).val) / k = b := by
      rw [Nat.add_comm, Nat.add_mul_div_right _ _ hk, Nat.div_eq_of_lt x1, Nat.zero_add]
    have m1 : (b * k + (x 1).val) % k = (x 1).val := by
      rw [Nat.add_comm, Nat.add_mul_mod_self_right, Nat.mod_eq_of_lt x1]
    unfold bdiag
    rw [if_pos (by rw [e0, e1, d1]; omega)]
    congr 1
    funext a
    match a with
    | ⟨0, _⟩ => exact Fin.ext (show (x 0).val = _ % 32 by rw [e0]; omega)
    | ⟨1, _⟩ => exact Fin.ext (show (x 1).val = _ % k by rw [e1, m1])
  funext y
  refine canon_step _ _ _ _ _ (fun x hx => key 3 _ rfl _ x y hx) fun n3 => ?_
  refine canon_step _ _ _ _ _ (fun x hx => key 2 _ rfl _ x y hx) fun n2 => ?_
  refine canon_step _ _ _ _ _ (fun x hx => key 1 _ (by simp) _ x y hx) fun n1 => ?_
  refine canon_step _ _ _ _ _ (fun x hx => key 0 _ (by simp) _ x y hx) fun n0 => ?_
  rw [View.canon_cons_unit_zero (S := ⟨2, ![128, 4 * k]⟩) (funext fun a => match a with | ⟨0, _⟩ => rfl | ⟨1, _⟩ => rfl)]
  unfold bdiag
  rw [if_neg]
  intro hb
  have y0 : (y 0).val < 128 := (y 0).isLt
  have y1 : (y 1).val < 4 * k := (y 1).isLt
  have hq : k * ((y 1).val / k) + (y 1).val % k = (y 1).val := Nat.div_add_mod _ _
  have hm : (y 1).val % k < k := Nat.mod_lt _ hk
  have hb4 : (y 0).val / 32 < 4 := by omega
  have mem : ∀ (b : ℕ) (o : Fin 2 → ℕ) (ho : o = ![32 * b, b * k]) (inb), (y 0).val / 32 = b →
      y ∈ (Rect.unit (s := ⟨2, ![128, 4 * k]⟩) o ![32, k] inb).set := by
    intro b o ho inb h0
    subst ho
    rw [Rect.mem_set_unit]
    rw [← hb, h0, Nat.mul_comm] at hq
    intro a
    match a with
    | ⟨0, _⟩ => exact ⟨(by omega : 32 * b ≤ (y 0).val), (by omega : (y 0).val < 32 * b + 32)⟩
    | ⟨1, _⟩ => exact ⟨(by omega : b * k ≤ (y 1).val), (by omega : (y 1).val < b * k + k)⟩
  have h4 : (y 0).val / 32 = 0 ∨ (y 0).val / 32 = 1 ∨ (y 0).val / 32 = 2 ∨ (y 0).val / 32 = 3 := by omega
  rcases h4 with h | h | h | h
  · exact n0 (mem 0 _ (by simp) _ h)
  · exact n1 (mem 1 _ (by simp) _ h)
  · exact n2 (mem 2 _ rfl _ h)
  · exact n3 (mem 3 _ rfl _ h)

/-- Group `j` of rows placed in an array built of groups of 128 rows. -/
theorem grouped_emb {R : ℕ} (G : ℕ → Vec F S128x1024 .f32) (j : ℕ) (inb) (x : (Rect.unit (s := ⟨2, ![R, 1024]⟩) ![128 * j, 0] ![128, 1024] inb).shape.Idx) :
    G j x = (fun y : (⟨2, ![R, 1024]⟩ : Shape).Idx => G ((y 0).val / 128) (ix2 ⟨(y 0).val % 128, Nat.mod_lt _ (by decide)⟩ ⟨(y 1).val, (y 1).isLt⟩))
      ((Rect.unit (s := ⟨2, ![R, 1024]⟩) ![128 * j, 0] ![128, 1024] inb).emb x) := by
  have x0 : (x 0).val < 128 := (x 0).isLt
  have e0 : ((Rect.unit (s := ⟨2, ![R, 1024]⟩) ![128 * j, 0] ![128, 1024] inb).emb x 0).val = 128 * j + (x 0).val := Rect.idx_unit_val _ _ _ _ _
  have e1 : ((Rect.unit (s := ⟨2, ![R, 1024]⟩) ![128 * j, 0] ![128, 1024] inb).emb x 1).val = 0 + (x 1).val := Rect.idx_unit_val _ _ _ _ _
  have q : ((Rect.unit (s := ⟨2, ![R, 1024]⟩) ![128 * j, 0] ![128, 1024] inb).emb x 0).val / 128 = j := by rw [e0]; omega
  show _ = G _ _
  rw [q]
  congr 1
  funext a
  match a with
  | ⟨0, _⟩ => exact Fin.ext (show (x 0).val = ((Rect.unit (s := ⟨2, ![R, 1024]⟩) ![128 * j, 0] ![128, 1024] inb).emb x 0).val % 128 by rw [e0]; omega)
  | ⟨1, _⟩ => exact Fin.ext (e1.trans (Nat.zero_add _)).symm

/-- Every index lies in the rectangle that is the whole of a two axis array. -/
theorem mem_whole {R C : ℕ} (iw : ∀ a, (![0, 0] : Fin 2 → ℕ) a + (![R, C] : Fin 2 → ℕ) a ≤ (⟨2, ![R, C]⟩ : Shape).size a) (y : (⟨2, ![R, C]⟩ : Shape).Idx) :
    y ∈ (Rect.unit (s := ⟨2, ![R, C]⟩) ![0, 0] ![R, C] iw).set := by
  rw [Rect.mem_set_unit]
  have y0 : (y 0).val < R := (y 0).isLt
  have y1 : (y 1).val < C := (y 1).isLt
  intro a
  match a with
  | ⟨0, _⟩ => exact ⟨Nat.zero_le _, (by omega : (y 0).val < 0 + R)⟩
  | ⟨1, _⟩ => exact ⟨Nat.zero_le _, (by omega : (y 1).val < 0 + C)⟩

/-- The same through a buffer: four stores of `w` down the diagonal over a store of `z` everywhere read back block diagonal. -/
theorem read_bdiag {φ : EltTy} {N k : ℕ} (hk : 0 < k) (hN : N = 4 * k) (o1 o2 o3 : ℕ) (h1 : k = o1) (h2 : 2 * k = o2) (h3 : 3 * k = o3)
    (v : Memref sig .tc .vmem ⟨2, ![128, N]⟩ φ) (f : v.view.ty.Contents (Elt F))
    (i3 : ∀ a, (![96, o3] : Fin 2 → ℕ) a + (![32, k] : Fin 2 → ℕ) a ≤ (⟨2, ![128, N]⟩ : Shape).size a)
    (i2 : ∀ a, (![64, o2] : Fin 2 → ℕ) a + (![32, k] : Fin 2 → ℕ) a ≤ (⟨2, ![128, N]⟩ : Shape).size a)
    (i1 : ∀ a, (![32, o1] : Fin 2 → ℕ) a + (![32, k] : Fin 2 → ℕ) a ≤ (⟨2, ![128, N]⟩ : Shape).size a)
    (i0 : ∀ a, (![0, 0] : Fin 2 → ℕ) a + (![32, k] : Fin 2 → ℕ) a ≤ (⟨2, ![128, N]⟩ : Shape).size a)
    (iw : ∀ a, (![0, 0] : Fin 2 → ℕ) a + (![128, N] : Fin 2 → ℕ) a ≤ (⟨2, ![128, N]⟩ : Shape).size a)
    (z : Elt F φ) (w p3 p2 p1 p0 : Vec F ⟨2, ![32, k]⟩ φ) (pz : Vec F ⟨2, ![128, N]⟩ φ) (e3 : p3 = w) (e2 : p2 = w) (e1 : p1 = w) (e0 : p0 = w)
    (ez : pz = fun _ => z) :
    v.view.read (Elt F) (v.view.writes (Elt F) f [⟨Rect.unit ![96, o3] ![32, k] i3, p3⟩, ⟨Rect.unit ![64, o2] ![32, k] i2, p2⟩,
      ⟨Rect.unit ![32, o1] ![32, k] i1, p1⟩, ⟨Rect.unit ![0, 0] ![32, k] i0, p0⟩, ⟨Rect.unit ![0, 0] ![128, N] iw, pz⟩]) = bdiag hk z w := by
  rw [e3, e2, e1, e0, ez]
  refine (View.read_writes_eq_canon _ _ _ fun y => ?_).trans (canon_bdiag hk hN o1 o2 o3 h1 h2 h3 i3 i2 i1 i0 iw z _)
  exact ⟨⟨Rect.unit ![0, 0] ![128, N] iw, fun _ => z⟩, .tail _ (.tail _ (.tail _ (.tail _ (.head _)))), mem_whole iw y⟩

/-- One store over a whole two axis buffer reads back its payload. -/
theorem read_single {φ : EltTy} {R C : ℕ} (v : Memref sig .tc .vmem ⟨2, ![R, C]⟩ φ) (f : v.view.ty.Contents (Elt F))
    (iw : ∀ a, (![0, 0] : Fin 2 → ℕ) a + (![R, C] : Fin 2 → ℕ) a ≤ (⟨2, ![R, C]⟩ : Shape).size a) (p : Vec F ⟨2, ![R, C]⟩ φ) :
    v.view.read (Elt F) (v.view.writes (Elt F) f [⟨Rect.unit ![0, 0] ![R, C] iw, p⟩]) = p := by
  have h00 : (![0, 0] : Fin 2 → ℕ) = fun _ => 0 := funext fun a => match a with | ⟨0, _⟩ => rfl | ⟨1, _⟩ => rfl
  refine (View.read_writes_eq_canon _ _ _ fun y => ?_).trans (View.canon_cons_unit_zero (S := ⟨2, ![R, C]⟩) h00 iw p _)
  exact ⟨⟨Rect.unit ![0, 0] ![R, C] iw, p⟩, .head _, mem_whole iw y⟩

end Cert.KernelIdeal.Kern

end
-- ==== Proof.Kern.RunFill.lean ====
module

public import proofs.«01_k».proof.Proof.Kern.Blocks

/-! What the first step leaves: the seven block diagonal weight buffers. -/

@[expose] public section

set_option maxRecDepth 16384

noncomputable section

namespace Cert.KernelIdeal.Kern

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-- The word all off diagonal entries hold. -/
def zeroF : F .f32 := Scalar.ofBits .f32 0x00000000#32

/-- The block of the history weights that multiplies the two post embeddings. -/
def wPost (x13 : Vec F S32x192 .f32) : Vec F S32x64 .f32 := k0_pay12 x13

/-- Four copies of it down the diagonal. -/
def wPostDiag (x13 : Vec F S32x192 .f32) : Vec F S128x256 .f32 := bdiag (φ := .f32) (N := 256) (k := 64) (by decide) zeroF (wPost x13)

/-- The block of the history weights that multiplies the two author embeddings. -/
def wAuth (x13 : Vec F S32x192 .f32) : Vec F S32x64 .f32 := k0_pay18 x13

/-- Four copies of it down the diagonal. -/
def wAuthDiag (x13 : Vec F S32x192 .f32) : Vec F S128x256 .f32 := bdiag (φ := .f32) (N := 256) (k := 64) (by decide) zeroF (wAuth x13)

/-- The block of the history weights that multiplies the action embedding. -/
def wAct (x13 : Vec F S32x192 .f32) : Vec F S32x32 .f32 := k0_pay24 (k0_pay9 x13)

/-- Four copies of it down the diagonal. -/
def wActDiag (x13 : Vec F S32x192 .f32) : Vec F S128x128 .f32 := bdiag (φ := .f32) (N := 128) (k := 32) (by decide) zeroF (wAct x13)

/-- The block of the history weights that multiplies the surface embedding. -/
def wSurf (x13 : Vec F S32x192 .f32) : Vec F S32x32 .f32 := k0_pay30 (k0_pay28 (k0_pay9 x13))

/-- Four copies of it down the diagonal. -/
def wSurfDiag (x13 : Vec F S32x192 .f32) : Vec F S128x128 .f32 := bdiag (φ := .f32) (N := 128) (k := 32) (by decide) zeroF (wSurf x13)

/-- The block of the candidate weights that multiplies the two post embeddings. -/
def wCandPost (x12 : Vec F S32x160 .f32) : Vec F S32x64 .f32 := k0_pay36 (k0_pay8 x12)

/-- Four copies of it down the diagonal. -/
def wCandPostDiag (x12 : Vec F S32x160 .f32) : Vec F S128x256 .f32 := bdiag (φ := .f32) (N := 256) (k := 64) (by decide) zeroF (wCandPost x12)

/-- The block of the candidate weights that multiplies the two author embeddings. -/
def wCandAuth (x12 : Vec F S32x160 .f32) : Vec F S32x64 .f32 := k0_pay43 (k0_pay40 (k0_pay8 x12))

/-- Four copies of it down the diagonal. -/
def wCandAuthDiag (x12 : Vec F S32x160 .f32) : Vec F S128x256 .f32 := bdiag (φ := .f32) (N := 256) (k := 64) (by decide) zeroF (wCandAuth x12)

/-- The block of the candidate weights that multiplies the surface embedding. -/
def wCandSurf (x12 : Vec F S32x160 .f32) : Vec F S32x32 .f32 := k0_pay49 (k0_pay8 x12)

/-- Four copies of it down the diagonal. -/
def wCandSurfDiag (x12 : Vec F S32x160 .f32) : Vec F S128x128 .f32 := bdiag (φ := .f32) (N := 128) (k := 32) (by decide) zeroF (wCandSurf x12)

variable (i : grid0.Coords)
variable (arg1 : Memref sig .tc .vmem S1280x1024 .f32) (harg1 : arg1.IsWhole)
  (arg2 : Memref sig .tc .vmem S1280x1024 .f32) (harg2 : arg2.IsWhole)
  (arg3 : Memref sig .tc .vmem S640x1024 .f32) (harg3 : arg3.IsWhole)
  (arg4 : Memref sig .tc .vmem S640x1024 .f32) (harg4 : arg4.IsWhole)
  (arg5 : Memref sig .tc .vmem S512x1024 .f32) (harg5 : arg5.IsWhole)
  (arg6 : Memref sig .tc .vmem S512x1024 .f32) (harg6 : arg6.IsWhole)
  (arg7 : Memref sig .tc .vmem S256x1024 .f32) (harg7 : arg7.IsWhole)
  (arg8 : Memref sig .tc .vmem S128x1024 .f32) (harg8 : arg8.IsWhole)
  (arg9 : Memref sig .tc .vmem S4x1024 .i32) (harg9 : arg9.IsWhole)
  (arg10 : Memref sig .tc .vmem S200x2x1024 .i32) (harg10 : arg10.IsWhole)
  (arg11 : Memref sig .tc .vmem S32x2x1024 .i32) (harg11 : arg11.IsWhole)
  (arg12 : Memref sig .tc .vmem S32x128 .f32) (harg12 : arg12.IsWhole)
  (arg13 : Memref sig .tc .vmem S32x160 .f32) (harg13 : arg13.IsWhole)
  (arg14 : Memref sig .tc .vmem S32x192 .f32) (harg14 : arg14.IsWhole)
  (arg15 : Memref sig .tc .vmem S640x1024 .f32) (harg15 : arg15.IsWhole)
  (arg16 : Memref sig .tc .vmem S256x1024 .f32) (harg16 : arg16.IsWhole)
  (arg17 : Memref sig .tc .vmem S32x1024 .f32) (harg17 : arg17.IsWhole)
  (arg18 : Memref sig .tc .vmem S1x1024 .i32) (harg18 : arg18.IsWhole)
  (arg19 : Memref sig .tc .vmem S200x1024 .i32) (harg19 : arg19.IsWhole)
  (arg20 : Memref sig .tc .vmem S32x1024 .i32) (harg20 : arg20.IsWhole)
  (arg21 : Memref sig .tc .vmem S128x256 .f32) (harg21 : arg21.IsWhole)
  (arg22 : Memref sig .tc .vmem S128x256 .f32) (harg22 : arg22.IsWhole)
  (arg23 : Memref sig .tc .vmem S128x128 .f32) (harg23 : arg23.IsWhole)
  (arg24 : Memref sig .tc .vmem S128x128 .f32) (harg24 : arg24.IsWhole)
  (arg25 : Memref sig .tc .vmem S128x256 .f32) (harg25 : arg25.IsWhole)
  (arg26 : Memref sig .tc .vmem S128x256 .f32) (harg26 : arg26.IsWhole)
  (arg27 : Memref sig .tc .vmem S128x128 .f32) (harg27 : arg27.IsWhole)

set_option maxHeartbeats 1600000 in
/-- The first step leaves the seven block diagonal weight buffers and nothing else changed. -/
theorem fill_run (c : Dev nD) (x12 : Vec F S32x160 .f32) (x13 : Vec F S32x192 .f32) (E : Set ℕ) (K : PUnit → sProp 𝕄) :
    iprop(owns (c : Thread nD τ) arg13 fullShare x12 ∗ owns (c : Thread nD τ) arg14 fullShare x13 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
        ∗ (iprop(owns (c : Thread nD τ) arg13 fullShare x12 ∗ owns (c : Thread nD τ) arg14 fullShare x13 ∗ owns (c : Thread nD τ) arg21 fullShare (wPostDiag x13) ∗ owns (c : Thread nD τ) arg22 fullShare (wAuthDiag x13) ∗ owns (c : Thread nD τ) arg23 fullShare (wActDiag x13) ∗ owns (c : Thread nD τ) arg24 fullShare (wSurfDiag x13) ∗ owns (c : Thread nD τ) arg25 fullShare (wCandPostDiag x12) ∗ owns (c : Thread nD τ) arg26 fullShare (wCandAuthDiag x12) ∗ owns (c : Thread nD τ) arg27 fullShare (wCandSurfDiag x12)) -∗ K ⟨⟩))
      ⊢ wp frame (wpE (defs₀ (F := F)) Variants.none c none) E (fillPart i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  unfold fillPart
  simp only [k0_part4_eq_skeleton, k0_part1_eq_skeleton, k0_part2_eq_skeleton, k0_part3_eq_skeleton]
  unfold k0_part4_skel
  simp only [k0_part1_eq_skeleton, k0_part2_eq_skeleton, k0_part3_eq_skeleton]
  unfold owns
  iintro ⟨⟨%f13, %hf13, H13⟩, ⟨%f14, %hf14, H14⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, Hk⟩
  obtain rfl := harg13.eq_unread hf13
  obtain rfl := harg14.eq_unread hf14
  sl_exec
  sl_step
  iapply Hk
  isplitl [H13]
  · iexists _; isplitr; · ipureintro; exact harg13.read_unread _
    iexact H13
  isplitl [H14]
  · iexists _; isplitr; · ipureintro; exact harg14.read_unread _
    iexact H14
  isplitl [H21]
  · iexists _; isplitr
    swap
    · iexact H21
    ipureintro
    have hx := readAt_whole arg14 harg14 x13 inb_S32x192_S32x192_0_0
    refine (read_bdiag (φ := .f32) (N := 256) (k := 64) (by decide) rfl 64 128 192 rfl rfl rfl arg21 f21 _ _ _ _ _ zeroF (wPost x13) _ _ _ _ _ ?_ ?_ ?_ ?_ rfl)
    all_goals exact congrArg wPost hx
  isplitl [H22]
  · iexists _; isplitr
    swap
    · iexact H22
    ipureintro
    have hx := readAt_whole arg14 harg14 x13 inb_S32x192_S32x192_0_0
    refine (read_bdiag (φ := .f32) (N := 256) (k := 64) (by decide) rfl 64 128 192 rfl rfl rfl arg22 f22 _ _ _ _ _ zeroF (wAuth x13) _ _ _ _ _ ?_ ?_ ?_ ?_ rfl)
    all_goals exact congrArg wAuth hx
  isplitl [H23]
  · iexists _; isplitr
    swap
    · iexact H23
    ipureintro
    have hx := readAt_whole arg14 harg14 x13 inb_S32x192_S32x192_0_0
    refine (read_bdiag (φ := .f32) (N := 128) (k := 32) (by decide) rfl 32 64 96 rfl rfl rfl arg23 f23 _ _ _ _ _ zeroF (wAct x13) _ _ _ _ _ ?_ ?_ ?_ ?_ rfl)
    all_goals exact congrArg wAct hx
  isplitl [H24]
  · iexists _; isplitr
    swap
    · iexact H24
    ipureintro
    have hx := readAt_whole arg14 harg14 x13 inb_S32x192_S32x192_0_0
    refine (read_bdiag (φ := .f32) (N := 128) (k := 32) (by decide) rfl 32 64 96 rfl rfl rfl arg24 f24 _ _ _ _ _ zeroF (wSurf x13) _ _ _ _ _ ?_ ?_ ?_ ?_ rfl)
    all_goals exact congrArg wSurf hx
  isplitl [H25]
  · iexists _; isplitr
    swap
    · iexact H25
    ipureintro
    have hx := readAt_whole arg13 harg13 x12 inb_S32x160_S32x160_0_0
    refine (read_bdiag (φ := .f32) (N := 256) (k := 64) (by decide) rfl 64 128 192 rfl rfl rfl arg25 f25 _ _ _ _ _ zeroF (wCandPost x12) _ _ _ _ _ ?_ ?_ ?_ ?_ rfl)
    all_goals exact congrArg wCandPost hx
  isplitl [H26]
  · iexists _; isplitr
    swap
    · iexact H26
    ipureintro
    have hx := readAt_whole arg13 harg13 x12 inb_S32x160_S32x160_0_0
    refine (read_bdiag (φ := .f32) (N := 256) (k := 64) (by decide) rfl 64 128 192 rfl rfl rfl arg26 f26 _ _ _ _ _ zeroF (wCandAuth x12) _ _ _ _ _ ?_ ?_ ?_ ?_ rfl)
    all_goals exact congrArg wCandAuth hx
  iexists _; isplitr
  swap
  · iexact H27
  ipureintro
  have hx := readAt_whole arg13 harg13 x12 inb_S32x160_S32x160_0_0
  refine (read_bdiag (φ := .f32) (N := 128) (k := 32) (by decide) rfl 32 64 96 rfl rfl rfl arg27 f27 _ _ _ _ _ zeroF (wCandSurf x12) _ _ _ _ _ ?_ ?_ ?_ ?_ rfl)
  all_goals exact congrArg wCandSurf hx

end Cert.KernelIdeal.Kern

end
-- ==== Proof.Kern.RunHist.lean ====
module

public import proofs.«01_k».proof.Proof.Kern.Blocks

/-! What a history step leaves: the run of the five groups of rows over the buffers it touches. -/

@[expose] public section

set_option maxRecDepth 16384

noncomputable section

namespace Cert.KernelIdeal.Kern

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-- One group of 128 history rows: the four weight buffers against a band of rows of each of the four inputs. -/
def histRows (s0 s1 : Vec F S128x256 .f32) (s2 s3 : Vec F S128x128 .f32) (x0 x1 : Vec F S1280x1024 .f32) (x2 x3 : Vec F S640x1024 .f32) (j : ℕ) :
    Vec F S128x1024 .f32 :=
  k0_pay52 s0 (rowsAt (φ := .f32) 256 (256 * j) (by decide) x0) s1 (rowsAt (φ := .f32) 256 (256 * j) (by decide) x1)
    s2 (rowsAt (φ := .f32) 128 (128 * j) (by decide) x2) s3 (rowsAt (φ := .f32) 128 (128 * j) (by decide) x3)

/-- The history block: group `j` of its rows comes from the bands `j` of the inputs. -/
def histOut (s0 s1 : Vec F S128x256 .f32) (s2 s3 : Vec F S128x128 .f32) (x0 x1 : Vec F S1280x1024 .f32) (x2 x3 : Vec F S640x1024 .f32) :
    Vec F S640x1024 .f32 :=
  fun y => histRows s0 s1 s2 s3 x0 x1 x2 x3 ((y 0).val / 128) (ix2 ⟨(y 0).val % 128, Nat.mod_lt _ (by decide)⟩ ⟨(y 1).val, (y 1).isLt⟩)

/-- The five groups of rows, stored one after another, leave the history block. -/
theorem hist_read (v : Memref sig .tc .vmem S640x1024 .f32) (f) (s0 s1 : Vec F S128x256 .f32) (s2 s3 : Vec F S128x128 .f32)
    (x0 x1 : Vec F S1280x1024 .f32) (x2 x3 : Vec F S640x1024 .f32) (p4 p3 p2 p1 p0 : Vec F S128x1024 .f32)
    (h4 : p4 = histRows s0 s1 s2 s3 x0 x1 x2 x3 4) (h3 : p3 = histRows s0 s1 s2 s3 x0 x1 x2 x3 3)
    (h2 : p2 = histRows s0 s1 s2 s3 x0 x1 x2 x3 2) (h1 : p1 = histRows s0 s1 s2 s3 x0 x1 x2 x3 1)
    (h0 : p0 = histRows s0 s1 s2 s3 x0 x1 x2 x3 0) :
    v.view.read (Elt F) (v.view.writes (Elt F) f
      [⟨Rect.unit ![512, 0] ![128, 1024] inb_S640x1024_S128x1024_512_0, p4⟩, ⟨Rect.unit ![384, 0] ![128, 1024] inb_S640x1024_S128x1024_384_0, p3⟩,
       ⟨Rect.unit ![256, 0] ![128, 1024] inb_S640x1024_S128x1024_256_0, p2⟩, ⟨Rect.unit ![128, 0] ![128, 1024] inb_S640x1024_S128x1024_128_0, p1⟩,
       ⟨Rect.unit ![0, 0] ![128, 1024] inb_S640x1024_S128x1024_0_0, p0⟩]) = histOut s0 s1 s2 s3 x0 x1 x2 x3 := by
  subst h4 h3 h2 h1 h0
  have hc := View.cover_of_tiledL (Val := Elt F) (s := S640x1024) (e := .f32)
      [⟨Rect.unit ![512, 0] ![128, 1024] inb_S640x1024_S128x1024_512_0, histRows s0 s1 s2 s3 x0 x1 x2 x3 4⟩,
       ⟨Rect.unit ![384, 0] ![128, 1024] inb_S640x1024_S128x1024_384_0, histRows s0 s1 s2 s3 x0 x1 x2 x3 3⟩,
       ⟨Rect.unit ![256, 0] ![128, 1024] inb_S640x1024_S128x1024_256_0, histRows s0 s1 s2 s3 x0 x1 x2 x3 2⟩,
       ⟨Rect.unit ![128, 0] ![128, 1024] inb_S640x1024_S128x1024_128_0, histRows s0 s1 s2 s3 x0 x1 x2 x3 1⟩,
       ⟨Rect.unit ![0, 0] ![128, 1024] inb_S640x1024_S128x1024_0_0, histRows s0 s1 s2 s3 x0 x1 x2 x3 0⟩] ![128, 1024] (by sl_kernel_rfl)
  rw [View.read_writes_eq_canon _ _ _ hc]
  funext y
  refine View.canon_apply_of_pieces _ _ (fun p hp => ?_) y (hc y)
  simp only [List.mem_cons, List.not_mem_nil, or_false] at hp
  rcases hp with rfl | rfl | rfl | rfl | rfl
  · exact grouped_emb (R := 640) (histRows s0 s1 s2 s3 x0 x1 x2 x3) 4 inb_S640x1024_S128x1024_512_0
  · exact grouped_emb (R := 640) (histRows s0 s1 s2 s3 x0 x1 x2 x3) 3 inb_S640x1024_S128x1024_384_0
  · exact grouped_emb (R := 640) (histRows s0 s1 s2 s3 x0 x1 x2 x3) 2 inb_S640x1024_S128x1024_256_0
  · exact grouped_emb (R := 640) (histRows s0 s1 s2 s3 x0 x1 x2 x3) 1 inb_S640x1024_S128x1024_128_0
  · exact grouped_emb (R := 640) (histRows s0 s1 s2 s3 x0 x1 x2 x3) 0 inb_S640x1024_S128x1024_0_0

variable (i : grid0.Coords)
variable (arg1 : Memref sig .tc .vmem S1280x1024 .f32) (harg1 : arg1.IsWhole)
  (arg2 : Memref sig .tc .vmem S1280x1024 .f32) (harg2 : arg2.IsWhole)
  (arg3 : Memref sig .tc .vmem S640x1024 .f32) (harg3 : arg3.IsWhole)
  (arg4 : Memref sig .tc .vmem S640x1024 .f32) (harg4 : arg4.IsWhole)
  (arg5 : Memref sig .tc .vmem S512x1024 .f32) (harg5 : arg5.IsWhole)
  (arg6 : Memref sig .tc .vmem S512x1024 .f32) (harg6 : arg6.IsWhole)
  (arg7 : Memref sig .tc .vmem S256x1024 .f32) (harg7 : arg7.IsWhole)
  (arg8 : Memref sig .tc .vmem S128x1024 .f32) (harg8 : arg8.IsWhole)
  (arg9 : Memref sig .tc .vmem S4x1024 .i32) (harg9 : arg9.IsWhole)
  (arg10 : Memref sig .tc .vmem S200x2x1024 .i32) (harg10 : arg10.IsWhole)
  (arg11 : Memref sig .tc .vmem S32x2x1024 .i32) (harg11 : arg11.IsWhole)
  (arg12 : Memref sig .tc .vmem S32x128 .f32) (harg12 : arg12.IsWhole)
  (arg13 : Memref sig .tc .vmem S32x160 .f32) (harg13 : arg13.IsWhole)
  (arg14 : Memref sig .tc .vmem S32x192 .f32) (harg14 : arg14.IsWhole)
  (arg15 : Memref sig .tc .vmem S640x1024 .f32) (harg15 : arg15.IsWhole)
  (arg16 : Memref sig .tc .vmem S256x1024 .f32) (harg16 : arg16.IsWhole)
  (arg17 : Memref sig .tc .vmem S32x1024 .f32) (harg17 : arg17.IsWhole)
  (arg18 : Memref sig .tc .vmem S1x1024 .i32) (harg18 : arg18.IsWhole)
  (arg19 : Memref sig .tc .vmem S200x1024 .i32) (harg19 : arg19.IsWhole)
  (arg20 : Memref sig .tc .vmem S32x1024 .i32) (harg20 : arg20.IsWhole)
  (arg21 : Memref sig .tc .vmem S128x256 .f32) (harg21 : arg21.IsWhole)
  (arg22 : Memref sig .tc .vmem S128x256 .f32) (harg22 : arg22.IsWhole)
  (arg23 : Memref sig .tc .vmem S128x128 .f32) (harg23 : arg23.IsWhole)
  (arg24 : Memref sig .tc .vmem S128x128 .f32) (harg24 : arg24.IsWhole)
  (arg25 : Memref sig .tc .vmem S128x256 .f32) (harg25 : arg25.IsWhole)
  (arg26 : Memref sig .tc .vmem S128x256 .f32) (harg26 : arg26.IsWhole)
  (arg27 : Memref sig .tc .vmem S128x128 .f32) (harg27 : arg27.IsWhole)

/-- One group of rows computed from what the loads read is that group of rows of the buffers' contents. -/
theorem rows_read (x0 x1 : Vec F S1280x1024 .f32) (x2 x3 : Vec F S640x1024 .f32) (s0 s1 : Vec F S128x256 .f32) (s2 s3 : Vec F S128x128 .f32)
    (j : ℕ) (i0 i1 i2 i3) :
    k0_pay52 (View.readAt (Elt F) arg21.view (Rect.unit (s := S128x256) ![0, 0] S128x256.size inb_S128x256_S128x256_0_0).toLoadRect (harg21.unread s0))
      (View.readAt (Elt F) arg1.view (Rect.unit (s := S1280x1024) ![256 * j, 0] S256x1024.size i0).toLoadRect (harg1.unread x0))
      (View.readAt (Elt F) arg22.view (Rect.unit (s := S128x256) ![0, 0] S128x256.size inb_S128x256_S128x256_0_0).toLoadRect (harg22.unread s1))
      (View.readAt (Elt F) arg2.view (Rect.unit (s := S1280x1024) ![256 * j, 0] S256x1024.size i1).toLoadRect (harg2.unread x1))
      (View.readAt (Elt F) arg23.view (Rect.unit (s := S128x128) ![0, 0] S128x128.size inb_S128x128_S128x128_0_0).toLoadRect (harg23.unread s2))
      (View.readAt (Elt F) arg3.view (Rect.unit (s := S640x1024) ![128 * j, 0] S128x1024.size i2).toLoadRect (harg3.unread x2))
      (View.readAt (Elt F) arg24.view (Rect.unit (s := S128x128) ![0, 0] S128x128.size inb_S128x128_S128x128_0_0).toLoadRect (harg24.unread s3))
      (View.readAt (Elt F) arg4.view (Rect.unit (s := S640x1024) ![128 * j, 0] S128x1024.size i3).toLoadRect (harg4.unread x3))
      = histRows s0 s1 s2 s3 x0 x1 x2 x3 j := by
  unfold histRows
  rw [readAt_whole arg21 harg21 s0, readAt_whole arg22 harg22 s1, readAt_whole arg23 harg23 s2, readAt_whole arg24 harg24 s3,
    readAt_rows (φ := .f32) 256 (256 * j) (by decide) arg1 harg1 x0 i0, readAt_rows (φ := .f32) 256 (256 * j) (by decide) arg2 harg2 x1 i1,
    readAt_rows (φ := .f32) 128 (128 * j) (by decide) arg3 harg3 x2 i2, readAt_rows (φ := .f32) 128 (128 * j) (by decide) arg4 harg4 x3 i3]

set_option maxHeartbeats 1600000 in
/-- A history step from the four inputs and the four weight buffers leaves the history block and nothing else changed. -/
theorem hist_run (c : Dev nD) (x0 : Vec F S1280x1024 .f32) (x1 : Vec F S1280x1024 .f32) (x2 : Vec F S640x1024 .f32) (x3 : Vec F S640x1024 .f32) (s0 : Vec F S128x256 .f32) (s1 : Vec F S128x256 .f32) (s2 : Vec F S128x128 .f32) (s3 : Vec F S128x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg21 fullShare s0 ∗ owns (c : Thread nD τ) arg22 fullShare s1 ∗ owns (c : Thread nD τ) arg23 fullShare s2 ∗ owns (c : Thread nD τ) arg24 fullShare s3 ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg21 fullShare s0 ∗ owns (c : Thread nD τ) arg22 fullShare s1 ∗ owns (c : Thread nD τ) arg23 fullShare s2 ∗ owns (c : Thread nD τ) arg24 fullShare s3 ∗ owns (c : Thread nD τ) arg15 fullShare (histOut s0 s1 s2 s3 x0 x1 x2 x3)) -∗ K ⟨⟩))
      ⊢ wp frame (wpE (defs₀ (F := F)) Variants.none c none) E (histPart i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  unfold histPart
  simp only [k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%g0, %hg0, G0⟩, ⟨%g1, %hg1, G1⟩, ⟨%g2, %hg2, G2⟩, ⟨%g3, %hg3, G3⟩, ⟨%d, %f14, -, H14⟩, Hk⟩
  obtain rfl := harg1.eq_unread hf0; obtain rfl := harg2.eq_unread hf1; obtain rfl := harg3.eq_unread hf2; obtain rfl := harg4.eq_unread hf3
  obtain rfl := harg21.eq_unread hg0; obtain rfl := harg22.eq_unread hg1; obtain rfl := harg23.eq_unread hg2; obtain rfl := harg24.eq_unread hg3
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [G0]
  · iexists _; isplitr; · ipureintro; exact harg21.read_unread _
    iexact G0
  isplitl [G1]
  · iexists _; isplitr; · ipureintro; exact harg22.read_unread _
    iexact G1
  isplitl [G2]
  · iexists _; isplitr; · ipureintro; exact harg23.read_unread _
    iexact G2
  isplitl [G3]
  · iexists _; isplitr; · ipureintro; exact harg24.read_unread _
    iexact G3
  iexists _; isplitr
  swap
  · iexact H14
  ipureintro
  refine hist_read arg15 f14 s0 s1 s2 s3 x0 x1 x2 x3 _ _ _ _ _ ?_ ?_ ?_ ?_ ?_
  · exact rows_read arg1 harg1 arg2 harg2 arg3 harg3 arg4 harg4 arg21 harg21 arg22 harg22 arg23 harg23 arg24 harg24 x0 x1 x2 x3 s0 s1 s2 s3 4 _ _ _ _
  · exact rows_read arg1 harg1 arg2 harg2 arg3 harg3 arg4 harg4 arg21 harg21 arg22 harg22 arg23 harg23 arg24 harg24 x0 x1 x2 x3 s0 s1 s2 s3 3 _ _ _ _
  · exact rows_read arg1 harg1 arg2 harg2 arg3 harg3 arg4 harg4 arg21 harg21 arg22 harg22 arg23 harg23 arg24 harg24 x0 x1 x2 x3 s0 s1 s2 s3 2 _ _ _ _
  · exact rows_read arg1 harg1 arg2 harg2 arg3 harg3 arg4 harg4 arg21 harg21 arg22 harg22 arg23 harg23 arg24 harg24 x0 x1 x2 x3 s0 s1 s2 s3 1 _ _ _ _
  · exact rows_read arg1 harg1 arg2 harg2 arg3 harg3 arg4 harg4 arg21 harg21 arg22 harg22 arg23 harg23 arg24 harg24 x0 x1 x2 x3 s0 s1 s2 s3 0 _ _ _ _

end Cert.KernelIdeal.Kern

end
-- ==== Proof.Kern.RunCand.lean ====
module

public import proofs.«01_k».proof.Proof.Kern.Blocks

/-! What a candidate step leaves: the run of the two groups of rows over the buffers it touches. -/

@[expose] public section

set_option maxRecDepth 16384

noncomputable section

namespace Cert.KernelIdeal.Kern

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-- One group of 128 candidate rows: the three weight buffers against a band of rows of each of the three inputs. -/
def candRows (s4 s5 : Vec F S128x256 .f32) (s6 : Vec F S128x128 .f32) (x4 x5 : Vec F S512x1024 .f32) (x6 : Vec F S256x1024 .f32) (j : ℕ) : Vec F S128x1024 .f32 :=
  k0_pay60 s4 (rowsAt (φ := .f32) 256 (256 * j) (by decide) x4) s5 (rowsAt (φ := .f32) 256 (256 * j) (by decide) x5)
    s6 (rowsAt (φ := .f32) 128 (128 * j) (by decide) x6)

/-- The candidate block: group `j` of its rows comes from the bands `j` of the inputs. -/
def candOut (s4 s5 : Vec F S128x256 .f32) (s6 : Vec F S128x128 .f32) (x4 x5 : Vec F S512x1024 .f32) (x6 : Vec F S256x1024 .f32) : Vec F S256x1024 .f32 :=
  fun y => candRows s4 s5 s6 x4 x5 x6 ((y 0).val / 128) (ix2 ⟨(y 0).val % 128, Nat.mod_lt _ (by decide)⟩ ⟨(y 1).val, (y 1).isLt⟩)

/-- The two groups of rows, stored one after the other, leave the candidate block. -/
theorem cand_read (v : Memref sig .tc .vmem S256x1024 .f32) (f) (s4 s5 : Vec F S128x256 .f32) (s6 : Vec F S128x128 .f32) (x4 x5 : Vec F S512x1024 .f32) (x6 : Vec F S256x1024 .f32)
    (p1 p0 : Vec F S128x1024 .f32) (h1 : p1 = candRows s4 s5 s6 x4 x5 x6 1) (h0 : p0 = candRows s4 s5 s6 x4 x5 x6 0) :
    v.view.read (Elt F) (v.view.writes (Elt F) f
      [⟨Rect.unit ![128, 0] ![128, 1024] inb_S256x1024_S128x1024_128_0, p1⟩, ⟨Rect.unit ![0, 0] ![128, 1024] inb_S256x1024_S128x1024_0_0, p0⟩])
      = candOut s4 s5 s6 x4 x5 x6 := by
  subst h1 h0
  have hc := View.cover_of_tiledL (Val := Elt F) (s := S256x1024) (e := .f32)
      [⟨Rect.unit ![128, 0] ![128, 1024] inb_S256x1024_S128x1024_128_0, candRows s4 s5 s6 x4 x5 x6 1⟩,
       ⟨Rect.unit ![0, 0] ![128, 1024] inb_S256x1024_S128x1024_0_0, candRows s4 s5 s6 x4 x5 x6 0⟩] ![128, 1024] (by sl_kernel_rfl)
  rw [View.read_writes_eq_canon _ _ _ hc]
  funext y
  refine View.canon_apply_of_pieces _ _ (fun p hp => ?_) y (hc y)
  simp only [List.mem_cons, List.not_mem_nil, or_false] at hp
  rcases hp with rfl | rfl
  · exact grouped_emb (R := 256) (candRows s4 s5 s6 x4 x5 x6) 1 inb_S256x1024_S128x1024_128_0
  · exact grouped_emb (R := 256) (candRows s4 s5 s6 x4 x5 x6) 0 inb_S256x1024_S128x1024_0_0

variable (i : grid0.Coords)
variable (arg1 : Memref sig .tc .vmem S1280x1024 .f32) (harg1 : arg1.IsWhole)
  (arg2 : Memref sig .tc .vmem S1280x1024 .f32) (harg2 : arg2.IsWhole)
  (arg3 : Memref sig .tc .vmem S640x1024 .f32) (harg3 : arg3.IsWhole)
  (arg4 : Memref sig .tc .vmem S640x1024 .f32) (harg4 : arg4.IsWhole)
  (arg5 : Memref sig .tc .vmem S512x1024 .f32) (harg5 : arg5.IsWhole)
  (arg6 : Memref sig .tc .vmem S512x1024 .f32) (harg6 : arg6.IsWhole)
  (arg7 : Memref sig .tc .vmem S256x1024 .f32) (harg7 : arg7.IsWhole)
  (arg8 : Memref sig .tc .vmem S128x1024 .f32) (harg8 : arg8.IsWhole)
  (arg9 : Memref sig .tc .vmem S4x1024 .i32) (harg9 : arg9.IsWhole)
  (arg10 : Memref sig .tc .vmem S200x2x1024 .i32) (harg10 : arg10.IsWhole)
  (arg11 : Memref sig .tc .vmem S32x2x1024 .i32) (harg11 : arg11.IsWhole)
  (arg12 : Memref sig .tc .vmem S32x128 .f32) (harg12 : arg12.IsWhole)
  (arg13 : Memref sig .tc .vmem S32x160 .f32) (harg13 : arg13.IsWhole)
  (arg14 : Memref sig .tc .vmem S32x192 .f32) (harg14 : arg14.IsWhole)
  (arg15 : Memref sig .tc .vmem S640x1024 .f32) (harg15 : arg15.IsWhole)
  (arg16 : Memref sig .tc .vmem S256x1024 .f32) (harg16 : arg16.IsWhole)
  (arg17 : Memref sig .tc .vmem S32x1024 .f32) (harg17 : arg17.IsWhole)
  (arg18 : Memref sig .tc .vmem S1x1024 .i32) (harg18 : arg18.IsWhole)
  (arg19 : Memref sig .tc .vmem S200x1024 .i32) (harg19 : arg19.IsWhole)
  (arg20 : Memref sig .tc .vmem S32x1024 .i32) (harg20 : arg20.IsWhole)
  (arg21 : Memref sig .tc .vmem S128x256 .f32) (harg21 : arg21.IsWhole)
  (arg22 : Memref sig .tc .vmem S128x256 .f32) (harg22 : arg22.IsWhole)
  (arg23 : Memref sig .tc .vmem S128x128 .f32) (harg23 : arg23.IsWhole)
  (arg24 : Memref sig .tc .vmem S128x128 .f32) (harg24 : arg24.IsWhole)
  (arg25 : Memref sig .tc .vmem S128x256 .f32) (harg25 : arg25.IsWhole)
  (arg26 : Memref sig .tc .vmem S128x256 .f32) (harg26 : arg26.IsWhole)
  (arg27 : Memref sig .tc .vmem S128x128 .f32) (harg27 : arg27.IsWhole)

/-- One group of rows computed from what the loads read is that group of rows of the buffers' contents. -/
theorem cand_rows_read (s4 s5 : Vec F S128x256 .f32) (s6 : Vec F S128x128 .f32) (x4 x5 : Vec F S512x1024 .f32) (x6 : Vec F S256x1024 .f32) (j : ℕ) (i0 i1 i2) :
    k0_pay60 (View.readAt (Elt F) arg25.view (Rect.unit (s := S128x256) ![0, 0] S128x256.size inb_S128x256_S128x256_0_0).toLoadRect (harg25.unread s4))
      (View.readAt (Elt F) arg5.view (Rect.unit (s := S512x1024) ![256 * j, 0] S256x1024.size i0).toLoadRect (harg5.unread x4))
      (View.readAt (Elt F) arg26.view (Rect.unit (s := S128x256) ![0, 0] S128x256.size inb_S128x256_S128x256_0_0).toLoadRect (harg26.unread s5))
      (View.readAt (Elt F) arg6.view (Rect.unit (s := S512x1024) ![256 * j, 0] S256x1024.size i1).toLoadRect (harg6.unread x5))
      (View.readAt (Elt F) arg27.view (Rect.unit (s := S128x128) ![0, 0] S128x128.size inb_S128x128_S128x128_0_0).toLoadRect (harg27.unread s6))
      (View.readAt (Elt F) arg7.view (Rect.unit (s := S256x1024) ![128 * j, 0] S128x1024.size i2).toLoadRect (harg7.unread x6))
      = candRows s4 s5 s6 x4 x5 x6 j := by
  unfold candRows
  rw [readAt_whole arg25 harg25 s4, readAt_whole arg26 harg26 s5, readAt_whole arg27 harg27 s6,
    readAt_rows (φ := .f32) 256 (256 * j) (by decide) arg5 harg5 x4 i0, readAt_rows (φ := .f32) 256 (256 * j) (by decide) arg6 harg6 x5 i1,
    readAt_rows (φ := .f32) 128 (128 * j) (by decide) arg7 harg7 x6 i2]

set_option maxHeartbeats 1600000 in
/-- A candidate step from the three inputs and the three weight buffers leaves the candidate block and nothing else changed. -/
theorem cand_run (c : Dev nD) (x4 : Vec F S512x1024 .f32) (x5 : Vec F S512x1024 .f32) (x6 : Vec F S256x1024 .f32) (s4 : Vec F S128x256 .f32) (s5 : Vec F S128x256 .f32) (s6 : Vec F S128x128 .f32) (E : Set ℕ) (K : PUnit → sProp 𝕄) :
    iprop(owns (c : Thread nD τ) arg5 fullShare x4 ∗ owns (c : Thread nD τ) arg6 fullShare x5 ∗ owns (c : Thread nD τ) arg7 fullShare x6 ∗ owns (c : Thread nD τ) arg25 fullShare s4 ∗ owns (c : Thread nD τ) arg26 fullShare s5 ∗ owns (c : Thread nD τ) arg27 fullShare s6 ∗ (∃ d, owns (c : Thread nD τ) arg16 fullShare d)
        ∗ (iprop(owns (c : Thread nD τ) arg5 fullShare x4 ∗ owns (c : Thread nD τ) arg6 fullShare x5 ∗ owns (c : Thread nD τ) arg7 fullShare x6 ∗ owns (c : Thread nD τ) arg25 fullShare s4 ∗ owns (c : Thread nD τ) arg26 fullShare s5 ∗ owns (c : Thread nD τ) arg27 fullShare s6 ∗ owns (c : Thread nD τ) arg16 fullShare (candOut s4 s5 s6 x4 x5 x6)) -∗ K ⟨⟩))
      ⊢ wp frame (wpE (defs₀ (F := F)) Variants.none c none) E (candPart i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  unfold candPart
  simp only [k0_part8_eq_skeleton]
  unfold owns
  iintro ⟨⟨%f5, %hf5, H5⟩, ⟨%f6, %hf6, H6⟩, ⟨%f7, %hf7, H7⟩, ⟨%f25, %hf25, H25⟩, ⟨%f26, %hf26, H26⟩, ⟨%f27, %hf27, H27⟩, ⟨%d16, %f16, -, H16⟩, Hk⟩
  obtain rfl := harg5.eq_unread hf5
  obtain rfl := harg6.eq_unread hf6
  obtain rfl := harg7.eq_unread hf7
  obtain rfl := harg25.eq_unread hf25
  obtain rfl := harg26.eq_unread hf26
  obtain rfl := harg27.eq_unread hf27
  sl_exec
  sl_step
  iapply Hk
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H25]
  · iexists _; isplitr; · ipureintro; exact harg25.read_unread _
    iexact H25
  isplitl [H26]
  · iexists _; isplitr; · ipureintro; exact harg26.read_unread _
    iexact H26
  isplitl [H27]
  · iexists _; isplitr; · ipureintro; exact harg27.read_unread _
    iexact H27
  iexists _; isplitr
  swap
  · iexact H16
  ipureintro
  refine cand_read arg16 f16 s4 s5 s6 x4 x5 x6 _ _ ?_ ?_
  · exact cand_rows_read arg5 harg5 arg6 harg6 arg7 harg7 arg25 harg25 arg26 harg26 arg27 harg27 s4 s5 s6 x4 x5 x6 1 _ _ _
  · exact cand_rows_read arg5 harg5 arg6 harg6 arg7 harg7 arg25 harg25 arg26 harg26 arg27 harg27 s4 s5 s6 x4 x5 x6 0 _ _ _

end Cert.KernelIdeal.Kern

end
-- ==== Proof.Kern.RunLast.lean ====
module

public import proofs.«01_k».proof.Proof.Kern.Blocks

/-! What the last step leaves: the user rows and the three masks. -/

@[expose] public section

set_option maxRecDepth 16384

noncomputable section

namespace Cert.KernelIdeal.Kern

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-- The user rows: the transposed user weights times the transposed user embeddings. -/
def userOut (x11 : Vec F S32x128 .f32) (x7 : Vec F S128x1024 .f32) : Vec F S32x1024 .f32 := k0_pay4 x11 x7

/-- The user mask: where row 0 of the user hashes is not zero. -/
def umaskOut (x8 : Vec F S4x1024 .i32) : Vec F S1x1024 .i32 :=
  k0_pay5 (View.ld (Val := Elt F) (e' := .i32) x8 (Rect.unit (s := S4x1024) ![0, 0] S1x1024.size inb_S4x1024_S1x1024_0_0))

/-- The history mask: where the first hash of each history position is not zero. -/
def hmaskOut (x9 : Vec F S200x2x1024 .i32) : Vec F S200x1024 .i32 :=
  k0_pay6 (View.ld (Val := Elt F) (e' := .i32) x9 (Rect.unit (s := S200x2x1024) ![0, 0, 0] S200x1x1024.size inb_S200x2x1024_S200x1x1024_0_0_0))

/-- The candidate mask: where the first hash of each candidate is not zero. -/
def cmaskOut (x10 : Vec F S32x2x1024 .i32) : Vec F S32x1024 .i32 :=
  k0_pay7 (View.ld (Val := Elt F) (e' := .i32) x10 (Rect.unit (s := S32x2x1024) ![0, 0, 0] S32x1x1024.size inb_S32x2x1024_S32x1x1024_0_0_0))

variable (i : grid0.Coords)
variable (arg1 : Memref sig .tc .vmem S1280x1024 .f32) (harg1 : arg1.IsWhole)
  (arg2 : Memref sig .tc .vmem S1280x1024 .f32) (harg2 : arg2.IsWhole)
  (arg3 : Memref sig .tc .vmem S640x1024 .f32) (harg3 : arg3.IsWhole)
  (arg4 : Memref sig .tc .vmem S640x1024 .f32) (harg4 : arg4.IsWhole)
  (arg5 : Memref sig .tc .vmem S512x1024 .f32) (harg5 : arg5.IsWhole)
  (arg6 : Memref sig .tc .vmem S512x1024 .f32) (harg6 : arg6.IsWhole)
  (arg7 : Memref sig .tc .vmem S256x1024 .f32) (harg7 : arg7.IsWhole)
  (arg8 : Memref sig .tc .vmem S128x1024 .f32) (harg8 : arg8.IsWhole)
  (arg9 : Memref sig .tc .vmem S4x1024 .i32) (harg9 : arg9.IsWhole)
  (arg10 : Memref sig .tc .vmem S200x2x1024 .i32) (harg10 : arg10.IsWhole)
  (arg11 : Memref sig .tc .vmem S32x2x1024 .i32) (harg11 : arg11.IsWhole)
  (arg12 : Memref sig .tc .vmem S32x128 .f32) (harg12 : arg12.IsWhole)
  (arg13 : Memref sig .tc .vmem S32x160 .f32) (harg13 : arg13.IsWhole)
  (arg14 : Memref sig .tc .vmem S32x192 .f32) (harg14 : arg14.IsWhole)
  (arg15 : Memref sig .tc .vmem S640x1024 .f32) (harg15 : arg15.IsWhole)
  (arg16 : Memref sig .tc .vmem S256x1024 .f32) (harg16 : arg16.IsWhole)
  (arg17 : Memref sig .tc .vmem S32x1024 .f32) (harg17 : arg17.IsWhole)
  (arg18 : Memref sig .tc .vmem S1x1024 .i32) (harg18 : arg18.IsWhole)
  (arg19 : Memref sig .tc .vmem S200x1024 .i32) (harg19 : arg19.IsWhole)
  (arg20 : Memref sig .tc .vmem S32x1024 .i32) (harg20 : arg20.IsWhole)
  (arg21 : Memref sig .tc .vmem S128x256 .f32) (harg21 : arg21.IsWhole)
  (arg22 : Memref sig .tc .vmem S128x256 .f32) (harg22 : arg22.IsWhole)
  (arg23 : Memref sig .tc .vmem S128x128 .f32) (harg23 : arg23.IsWhole)
  (arg24 : Memref sig .tc .vmem S128x128 .f32) (harg24 : arg24.IsWhole)
  (arg25 : Memref sig .tc .vmem S128x256 .f32) (harg25 : arg25.IsWhole)
  (arg26 : Memref sig .tc .vmem S128x256 .f32) (harg26 : arg26.IsWhole)
  (arg27 : Memref sig .tc .vmem S128x128 .f32) (harg27 : arg27.IsWhole)

include harg8 harg9 harg10 harg11 harg12 in
set_option maxHeartbeats 1600000 in
/-- The last step leaves the user rows and the three masks and nothing else changed. -/
theorem last_run (c : Dev nD) (x7 : Vec F S128x1024 .f32) (x8 : Vec F S4x1024 .i32) (x9 : Vec F S200x2x1024 .i32) (x10 : Vec F S32x2x1024 .i32) (x11 : Vec F S32x128 .f32) (E : Set ℕ) (K : PUnit → sProp 𝕄) :
    iprop(owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
        ∗ (iprop(owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg17 fullShare (userOut x11 x7) ∗ owns (c : Thread nD τ) arg18 fullShare (umaskOut x8) ∗ owns (c : Thread nD τ) arg19 fullShare (hmaskOut x9) ∗ owns (c : Thread nD τ) arg20 fullShare (cmaskOut x10)) -∗ K ⟨⟩))
      ⊢ wp frame (wpE (defs₀ (F := F)) Variants.none c none) E (lastPart arg8 arg9 arg10 arg11 arg12 arg17 arg18 arg19 arg20) K := by
  unfold lastPart
  unfold owns
  iintro ⟨⟨%f8, %hf8, H8⟩, ⟨%f9, %hf9, H9⟩, ⟨%f10, %hf10, H10⟩, ⟨%f11, %hf11, H11⟩, ⟨%f12, %hf12, H12⟩, ⟨%d17, %f17, -, H17⟩, ⟨%d18, %f18, -, H18⟩, ⟨%d19, %f19, -, H19⟩, ⟨%d20, %f20, -, H20⟩, Hk⟩
  obtain rfl := harg8.eq_unread hf8
  obtain rfl := harg9.eq_unread hf9
  obtain rfl := harg10.eq_unread hf10
  obtain rfl := harg11.eq_unread hf11
  obtain rfl := harg12.eq_unread hf12
  sl_exec
  sl_step
  iapply Hk
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H17]
  · iexists _; isplitr
    swap
    · iexact H17
    ipureintro
    refine (read_single arg17 f17 inb_S32x1024_S32x1024_0_0 _).trans ?_
    unfold userOut
    rw [readAt_whole arg12 harg12 x11, readAt_whole arg8 harg8 x7]
  isplitl [H18]
  · iexists _; isplitr
    swap
    · iexact H18
    ipureintro
    refine (read_single arg18 f18 inb_S1x1024_S1x1024_0_0 _).trans ?_
    unfold umaskOut
    rw [View.readAt_eq_ld, harg9.read_unread]
  isplitl [H19]
  · iexists _; isplitr
    swap
    · iexact H19
    ipureintro
    refine (read_single arg19 f19 inb_S200x1024_S200x1024_0_0 _).trans ?_
    unfold hmaskOut
    rw [View.readAt_eq_ld, harg10.read_unread]
  iexists _; isplitr
  swap
  · iexact H20
  ipureintro
  refine (read_single arg20 f20 inb_S32x1024_S32x1024_0_0 _).trans ?_
  unfold cmaskOut
  rw [View.readAt_eq_ld, harg11.read_unread]

end Cert.KernelIdeal.Kern

end
-- ==== Proof.Kern.Data.lean ====
module

public import Idealize.ShloMosaic.Lib.Pipeline.TableIdle
public import proofs.«01_k».proof.Proof.Kern.Facts
public import proofs.«01_k».proof.Proof.Kern.RunFill
public import proofs.«01_k».proof.Proof.Kern.RunHist
public import proofs.«01_k».proof.Proof.Kern.RunCand
public import proofs.«01_k».proof.Proof.Kern.RunLast

/-! What every buffer holds after the body at each grid point. -/

@[expose] public section

set_option maxRecDepth 16384

noncomputable section

namespace Cert.KernelIdeal.Kern

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ (UR sig nD τ) ℕ

/-- The grid has fourteen points. -/
theorem pt_lt (t : Fin cfg0.N) : t.val < 14 := Nat.lt_of_lt_of_eq t.isLt N_0

/-- The first grid point. -/
def t0 : Fin cfg0.N := ⟨0, Nat.lt_of_lt_of_eq (by decide) N_0.symm⟩

/-- The last history point at or before `t`. -/
def tH (t : Fin cfg0.N) : Fin cfg0.N := ⟨min t.val 9, Nat.lt_of_le_of_lt (Nat.min_le_left _ _) t.isLt⟩

theorem tH_lt (t : Fin cfg0.N) (h : t.val < 10) : tH t = t := Fin.ext (Nat.min_eq_left (by omega))

theorem tH_pred (t : Fin cfg0.N) (h : 10 ≤ t.val) (h' : t.val - 1 < cfg0.N) : tH t = tH ⟨t.val - 1, h'⟩ :=
  Fin.ext ((Nat.min_eq_right (by omega)).trans (Nat.min_eq_right (by simp only; omega)).symm)

/-- The seven weight buffers as the first point leaves them, and the generator register at some state. -/
def weights (c : Dev nD) : sProp 𝕄 :=
  iprop(iprop(owns (c : Thread nD τ) scM0_0 fullShare (wPostDiag (iblk m c 13 t0)) ∗ owns (c : Thread nD τ) scM0_1 fullShare (wAuthDiag (iblk m c 13 t0))
    ∗ owns (c : Thread nD τ) scM0_2 fullShare (wActDiag (iblk m c 13 t0)) ∗ owns (c : Thread nD τ) scM0_3 fullShare (wSurfDiag (iblk m c 13 t0))
    ∗ owns (c : Thread nD τ) scM0_4 fullShare (wCandPostDiag (iblk m c 12 t0)) ∗ owns (c : Thread nD τ) scM0_5 fullShare (wCandAuthDiag (iblk m c 12 t0))
    ∗ owns (c : Thread nD τ) scM0_6 fullShare (wCandSurfDiag (iblk m c 12 t0)))
    ∗ (∃ r, prngReg c r))

/-- The block of history rows stored at `t` (at a candidate point, the one stored last). -/
def histAt (c : Dev nD) (t : Fin cfg0.N) : Vec F S640x1024 .f32 :=
  histOut (wPostDiag (iblk m c 13 t0)) (wAuthDiag (iblk m c 13 t0)) (wActDiag (iblk m c 13 t0)) (wSurfDiag (iblk m c 13 t0))
    (iblk m c 0 (tH t)) (iblk m c 1 (tH t)) (iblk m c 2 (tH t)) (iblk m c 3 (tH t))

/-- The block of candidate rows stored at `t`. -/
def candAt (c : Dev nD) (t : Fin cfg0.N) : Vec F S256x1024 .f32 :=
  candOut (wCandPostDiag (iblk m c 12 t0)) (wCandAuthDiag (iblk m c 12 t0)) (wCandSurfDiag (iblk m c 12 t0))
    (iblk m c 4 t) (iblk m c 5 t) (iblk m c 6 t)

/-- The proof data of the pipeline: each input at its block, each output at what the point stores, the weights carried
    from the first point on. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => histAt m c t
    | ⟨15, _⟩ => candAt m c t
    | ⟨16, _⟩ => userOut (iblk m c 11 t) (iblk m c 7 t)
    | ⟨17, _⟩ => umaskOut (iblk m c 8 t)
    | ⟨18, _⟩ => hmaskOut (iblk m c 9 t)
    | ⟨19, _⟩ => cmaskOut (iblk m c 10 t)
    | ⟨_ + 20, h⟩ => absurd h (Nat.not_lt.2 (Nat.le_add_left _ _))
  Φ t := if t.val = 0 then Pipeline.ΦA spec0 c else weights m c
  q _ := fullShare
  owed _ := 0

theorem A_eq (c : Dev nD) (w : Fin cfg0.W) : (dats m 0 c).A w = V m c (Pipeline.arrRef spec0 w) := by
  dsimp only [dats]

/-- Before the first point the scratch holds anything. -/
theorem phi_zero (c : Dev nD) (t : Fin (cfg0.N + 1)) (h : t.val = 0) : (dats m 0 c).Φ t = Pipeline.ΦA spec0 c := by
  dsimp only [dats]; exact if_pos h

/-- Before any later point the scratch holds the weights. -/
theorem phi_pos (c : Dev nD) (t : Fin (cfg0.N + 1)) (h : t.val ≠ 0) : (dats m 0 c).Φ t = weights m c := by
  dsimp only [dats]; exact if_neg h

theorem after_0 (c : Dev nD) (t : Fin cfg0.N) : (dats m 0 c).after 0 t = iblk m c 0 t := by dsimp only [dats]; try rfl
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]; try rfl
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]; try rfl
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]; try rfl
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]; try rfl
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]; try rfl
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = iblk m c 6 t := by dsimp only [dats]; try rfl
theorem before_6 (c : Dev nD) (t : Fin cfg0.N) (d) : (dats m 0 c).before 6 t d = iblk m c 6 t :=
  before0_6_of m (dats m 0 c) (A_eq m c 6) (after_6 m c) t d
theorem after_7 (c : Dev nD) (t : Fin cfg0.N) : (dats m 0 c).after 7 t = iblk m c 7 t := by dsimp only [dats]; try rfl
theorem before_7 (c : Dev nD) (t : Fin cfg0.N) (d) : (dats m 0 c).before 7 t d = iblk m c 7 t :=
  before0_7_of m (dats m 0 c) (A_eq m c 7) (after_7 m c) t d
theorem after_8 (c : Dev nD) (t : Fin cfg0.N) : (dats m 0 c).after 8 t = iblk m c 8 t := by dsimp only [dats]; try rfl
theorem before_8 (c : Dev nD) (t : Fin cfg0.N) (d) : (dats m 0 c).before 8 t d = iblk m c 8 t :=
  before0_8_of m (dats m 0 c) (A_eq m c 8) (after_8 m c) t d
theorem after_9 (c : Dev nD) (t : Fin cfg0.N) : (dats m 0 c).after 9 t = iblk m c 9 t := by dsimp only [dats]; try rfl
theorem before_9 (c : Dev nD) (t : Fin cfg0.N) (d) : (dats m 0 c).before 9 t d = iblk m c 9 t :=
  before0_9_of m (dats m 0 c) (A_eq m c 9) (after_9 m c) t d
theorem after_10 (c : Dev nD) (t : Fin cfg0.N) : (dats m 0 c).after 10 t = iblk m c 10 t := by dsimp only [dats]; try rfl
theorem before_10 (c : Dev nD) (t : Fin cfg0.N) (d) : (dats m 0 c).before 10 t d = iblk m c 10 t :=
  before0_10_of m (dats m 0 c) (A_eq m c 10) (after_10 m c) t d
theorem after_11 (c : Dev nD) (t : Fin cfg0.N) : (dats m 0 c).after 11 t = iblk m c 11 t := by dsimp only [dats]; try rfl
theorem before_11 (c : Dev nD) (t : Fin cfg0.N) (d) : (dats m 0 c).before 11 t d = iblk m c 11 t :=
  before0_11_of m (dats m 0 c) (A_eq m c 11) (after_11 m c) t d
theorem after_12 (c : Dev nD) (t : Fin cfg0.N) : (dats m 0 c).after 12 t = iblk m c 12 t := by dsimp only [dats]; try rfl
theorem before_12 (c : Dev nD) (t : Fin cfg0.N) (d) : (dats m 0 c).before 12 t d = iblk m c 12 t :=
  before0_12_of m (dats m 0 c) (A_eq m c 12) (after_12 m c) t d
theorem after_13 (c : Dev nD) (t : Fin cfg0.N) : (dats m 0 c).after 13 t = iblk m c 13 t := by dsimp only [dats]; try rfl
theorem before_13 (c : Dev nD) (t : Fin cfg0.N) (d) : (dats m 0 c).before 13 t d = iblk m c 13 t :=
  before0_13_of m (dats m 0 c) (A_eq m c 13) (after_13 m c) t d
theorem after_14 (c : Dev nD) (t : Fin cfg0.N) : (dats m 0 c).after 14 t = histAt m c t := by dsimp only [dats]; try rfl
theorem after_15 (c : Dev nD) (t : Fin cfg0.N) : (dats m 0 c).after 15 t = candAt m c t := by dsimp only [dats]; try rfl
theorem after_16 (c : Dev nD) (t : Fin cfg0.N) : (dats m 0 c).after 16 t = userOut (iblk m c 11 t) (iblk m c 7 t) := by dsimp only [dats]; try rfl
theorem after_17 (c : Dev nD) (t : Fin cfg0.N) : (dats m 0 c).after 17 t = umaskOut (iblk m c 8 t) := by dsimp only [dats]; try rfl
theorem after_18 (c : Dev nD) (t : Fin cfg0.N) : (dats m 0 c).after 18 t = hmaskOut (iblk m c 9 t) := by dsimp only [dats]; try rfl
theorem after_19 (c : Dev nD) (t : Fin cfg0.N) : (dats m 0 c).after 19 t = cmaskOut (iblk m c 10 t) := by dsimp only [dats]; try rfl

/-- At the last point the history buffer still holds the rows of the last history point. -/
theorem before_hist (c : Dev nD) (t : Fin cfg0.N) (h : 10 ≤ t.val) (d) : (dats m 0 c).before 14 t d = histAt m c t := by
  have hp : t.val - 1 < cfg0.N := Nat.lt_of_le_of_lt (Nat.sub_le _ _) t.isLt
  have carry : ∀ (t : Fin cfg0.N) (h' : t.val - 1 < cfg0.N), 10 ≤ t.val → (dats m 0 c).after 14 t = (dats m 0 c).after 14 ⟨t.val - 1, h'⟩ := by
    intro t h' ht
    rw [after_14, after_14]; unfold histAt; rw [tH_pred t ht h']
  refine ((dats m 0 c).before_out_traj 14 rfl (fun _ _ => rfl) (fun t _ hi _ => carry t _ ?_) t.val t rfl d).trans ?_
  · exact of_decide_eq_true ((idle_hist t).symm.trans hi)
  · have hf : cfg0.fresh 14 t.val = false :=
      (by decide +kernel : ∀ t : Fin grid0.N, 10 ≤ t.val → cfg0.fresh 14 t.val = false) t h
    rw [hf, if_neg Bool.false_ne_true, ← carry t hp h, after_14]

end Cert.KernelIdeal.Kern

end
-- ==== Proof.Kern.Reads.lean ====
module

public import proofs.«01_k».proof.Proof.Kern.Data
public import Idealize.ShloMosaic.Lib.Pipeline.ValueKit
public import Idealize.ShloMosaic.Lib.Pointwise

/-! What each input block holds, in terms of the array it is staged from. -/

@[expose] public section

set_option maxRecDepth 16384

noncomputable section

namespace Cert.KernelIdeal.Kern

open Idealize.ShloMosaic Idealize.ShloMosaic.TcCoe Idealize.ShloMosaic.Tactic Idealize.ShloMosaic.ValueKit
open Cert.KernelIdeal.Gen
open Idealize.SL.Sem

variable {F : FTy → Type} [FloatOps F]
variable (m : (ℓ : Loc nD τ sig) → Buf (Elt F) ℓ) (ρ : Dev nD → PrngReg)

/-- Input window 0 is at row block `min t.val 9` at point `t`. -/
theorem idx_0 : ∀ t : Fin cfg0.N, win0_0.index t = ![min t.val 9, 0] :=
  (by decide +kernel : ∀ t : Fin grid0.N, win0_0.index t = ![min t.val 9, 0])

/-- Row `r` of input block 0 at point `t` is a row of the array it is staged from. -/
theorem iblk_0 (c : Dev nD) (t : Fin cfg0.N) (r : Fin 1280) (b : Fin 1024) :
    iblk m c 0 t (ix2 r b)
      = V m c main_v1 (ix2 (⟨1280 * (min t.val 9) + r.val, by have := r.isLt; omega⟩ : Fin 12800) b) := by
  have e := idx_0
  blk_ext [iblk, e]

/-- Input window 1 is at row block `min t.val 9` at point `t`. -/
theorem idx_1 : ∀ t : Fin cfg0.N, win0_1.index t = ![min t.val 9, 0] :=
  (by decide +kernel : ∀ t : Fin grid0.N, win0_1.index t = ![min t.val 9, 0])

/-- Row `r` of input block 1 at point `t` is a row of the array it is staged from. -/
theorem iblk_1 (c : Dev nD) (t : Fin cfg0.N) (r : Fin 1280) (b : Fin 1024) :
    iblk m c 1 t (ix2 r b)
      = V m c main_v3 (ix2 (⟨1280 * (min t.val 9) + r.val, by have := r.isLt; omega⟩ : Fin 12800) b) := by
  have e := idx_1
  blk_ext [iblk, e]

/-- Input window 2 is at row block `min t.val 9` at point `t`. -/
theorem idx_2 : ∀ t : Fin cfg0.N, win0_2.index t = ![min t.val 9, 0] :=
  (by decide +kernel : ∀ t : Fin grid0.N, win0_2.index t = ![min t.val 9, 0])

/-- Row `r` of input block 2 at point `t` is a row of the array it is staged from. -/
theorem iblk_2 (c : Dev nD) (t : Fin cfg0.N) (r : Fin 640) (b : Fin 1024) :
    iblk m c 2 t (ix2 r b)
      = V m c main_v5 (ix2 (⟨640 * (min t.val 9) + r.val, by have := r.isLt; omega⟩ : Fin 6400) b) := by
  have e := idx_2
  blk_ext [iblk, e]

/-- Input window 3 is at row block `min t.val 9` at point `t`. -/
theorem idx_3 : ∀ t : Fin cfg0.N, win0_3.index t = ![min t.val 9, 0] :=
  (by decide +kernel : ∀ t : Fin grid0.N, win0_3.index t = ![min t.val 9, 0])

/-- Row `r` of input block 3 at point `t` is a row of the array it is staged from. -/
theorem iblk_3 (c : Dev nD) (t : Fin cfg0.N) (r : Fin 640) (b : Fin 1024) :
    iblk m c 3 t (ix2 r b)
      = V m c main_v7 (ix2 (⟨640 * (min t.val 9) + r.val, by have := r.isLt; omega⟩ : Fin 6400) b) := by
  have e := idx_3
  blk_ext [iblk, e]

/-- Input window 4 is at row block `min (t.val - 10) 3` at point `t`. -/
theorem idx_4 : ∀ t : Fin cfg0.N, win0_4.index t = ![min (t.val - 10) 3, 0] :=
  (by decide +kernel : ∀ t : Fin grid0.N, win0_4.index t = ![min (t.val - 10) 3, 0])

/-- Row `r` of input block 4 at point `t` is a row of the array it is staged from. -/
theorem iblk_4 (c : Dev nD) (t : Fin cfg0.N) (r : Fin 512) (b : Fin 1024) :
    iblk m c 4 t (ix2 r b)
      = V m c main_v9 (ix2 (⟨512 * (min (t.val - 10) 3) + r.val, by have := r.isLt; omega⟩ : Fin 2048) b) := by
  have e := idx_4
  blk_ext [iblk, e]

/-- Input window 5 is at row block `min (t.val - 10) 3` at point `t`. -/
theorem idx_5 : ∀ t : Fin cfg0.N, win0_5.index t = ![min (t.val - 10) 3, 0] :=
  (by decide +kernel : ∀ t : Fin grid0.N, win0_5.index t = ![min (t.val - 10) 3, 0])

/-- Row `r` of input block 5 at point `t` is a row of the array it is staged from. -/
theorem iblk_5 (c : Dev nD) (t : Fin cfg0.N) (r : Fin 512) (b : Fin 1024) :
    iblk m c 5 t (ix2 r b)
      = V m c main_v11 (ix2 (⟨512 * (min (t.val - 10) 3) + r.val, by have := r.isLt; omega⟩ : Fin 2048) b) := by
  have e := idx_5
  blk_ext [iblk, e]

/-- Input window 6 is at row block `min (t.val - 10) 3` at point `t`. -/
theorem idx_6 : ∀ t : Fin cfg0.N, win0_6.index t = ![min (t.val - 10) 3, 0] :=
  (by decide +kernel : ∀ t : Fin grid0.N, win0_6.index t = ![min (t.val - 10) 3, 0])

/-- Row `r` of input block 6 at point `t` is a row of the array it is staged from. -/
theorem iblk_6 (c : Dev nD) (t : Fin cfg0.N) (r : Fin 256) (b : Fin 1024) :
    iblk m c 6 t (ix2 r b)
      = V m c main_v13 (ix2 (⟨256 * (min (t.val - 10) 3) + r.val, by have := r.isLt; omega⟩ : Fin 1024) b) := by
  have e := idx_6
  blk_ext [iblk, e]

/-- Input window 7 stages its whole array at every point. -/
theorem idx_7 : ∀ t : Fin cfg0.N, win0_7.index t = ![0, 0] :=
  (by decide +kernel : ∀ t : Fin grid0.N, win0_7.index t = ![0, 0])

/-- Input block 7 is its array. -/
theorem iblk_7 (c : Dev nD) (t : Fin cfg0.N) : iblk m c 7 t = V m c main_v15 := by
  have e := idx_7
  funext y
  blk_ext [iblk, e]

/-- Input window 8 stages its whole array at every point. -/
theorem idx_8 : ∀ t : Fin cfg0.N, win0_8.index t = ![0, 0] :=
  (by decide +kernel : ∀ t : Fin grid0.N, win0_8.index t = ![0, 0])

/-- Input block 8 is its array. -/
theorem iblk_8 (c : Dev nD) (t : Fin cfg0.N) : iblk m c 8 t = V m c main_v16 := by
  have e := idx_8
  funext y
  blk_ext [iblk, e]

/-- Input window 9 stages its whole array at every point. -/
theorem idx_9 : ∀ t : Fin cfg0.N, win0_9.index t = ![0, 0, 0] :=
  (by decide +kernel : ∀ t : Fin grid0.N, win0_9.index t = ![0, 0, 0])

/-- Input block 9 reads its array at the same place: the block leaves nothing out of the rows the body reads. -/
theorem iblk_9 (c : Dev nD) (t : Fin cfg0.N) : iblk m c 9 t = V m c main_v17 := by
  have e := idx_9
  funext y
  blk_ext [iblk, e]

/-- Input window 10 stages its whole array at every point. -/
theorem idx_10 : ∀ t : Fin cfg0.N, win0_10.index t = ![0, 0, 0] :=
  (by decide +kernel : ∀ t : Fin grid0.N, win0_10.index t = ![0, 0, 0])

/-- Input block 10 reads its array at the same place: the block leaves nothing out of the rows the body reads. -/
theorem iblk_10 (c : Dev nD) (t : Fin cfg0.N) : iblk m c 10 t = V m c main_v18 := by
  have e := idx_10
  funext y
  blk_ext [iblk, e]

/-- Input window 11 stages its whole array at every point. -/
theorem idx_11 : ∀ t : Fin cfg0.N, win0_11.index t = ![0, 0] :=
  (by decide +kernel : ∀ t : Fin grid0.N, win0_11.index t = ![0, 0])

/-- Input block 11 is its array. -/
theorem iblk_11 (c : Dev nD) (t : Fin cfg0.N) : iblk m c 11 t = V m c main_v19 := by
  have e := idx_11
  funext y
  blk_ext [iblk, e]

/-- Input window 12 stages its whole array at every point. -/
theorem idx_12 : ∀ t : Fin cfg0.N, win0_12.index t = ![0, 0] :=
  (by decide +kernel : ∀ t : Fin grid0.N, win0_12.index t = ![0, 0])

/-- Input block 12 is its array. -/
theorem iblk_12 (c : Dev nD) (t : Fin cfg0.N) : iblk m c 12 t = V m c main_v20 := by
  have e := idx_12
  funext y
  blk_ext [iblk, e]

/-- Input window 13 stages its whole array at every point. -/
theorem idx_13 : ∀ t : Fin cfg0.N, win0_13.index t = ![0, 0] :=
  (by decide +kernel : ∀ t : Fin grid0.N, win0_13.index t = ![0, 0])

/-- Input block 13 is its array. -/
theorem iblk_13 (c : Dev nD) (t : Fin cfg0.N) : iblk m c 13 t = V m c main_v21 := by
  have e := idx_13
  funext y
  blk_ext [iblk, e]

end Cert.KernelIdeal.Kern

end
-- ==== Proof.Kern.Entries.lean ====
module

public import Idealize.ShloMosaic.Lib.Pointwise
public import proofs.«01_k».proof.Proof.Kern.RunFill
public import proofs.«01_k».proof.Proof.Kern.RunHist
public import proofs.«01_k».proof.Proof.Kern.RunCand
public import proofs.«01_k».proof.Proof.Kern.RunLast

/-! The arithmetic of one block, entry by entry, over the extended reals. -/

@[expose] public section

set_option maxRecDepth 16384

noncomputable section

namespace Cert.KernelIdeal.Kern

open Idealize.ShloMosaic Idealize.ShloMosaic.TcCoe Idealize.ShloMosaic.Tactic
open Cert.KernelIdeal.Gen

/-- `wPost` is columns 0 to 63 of the transposed weights. -/
theorem wPost_apply (x : Vec Ideal S32x192 .f32) (d : Fin 32) (k : Fin 64) :
    wPost x (ix2 d k) = x (ix2 d ⟨0 + k.val, by omega⟩) := by
  unfold wPost k0_pay12  k0_pay10   k0_pay9
  pointwise

/-- `wAuth` is columns 64 to 127 of the transposed weights. -/
theorem wAuth_apply (x : Vec Ideal S32x192 .f32) (d : Fin 32) (k : Fin 64) :
    wAuth x (ix2 d k) = x (ix2 d ⟨64 + k.val, by omega⟩) := by
  unfold wAuth k0_pay18  k0_pay16   k0_pay9
  pointwise

/-- `wAct` is columns 128 to 159 of the transposed weights. -/
theorem wAct_apply (x : Vec Ideal S32x192 .f32) (d : Fin 32) (k : Fin 32) :
    wAct x (ix2 d k) = x (ix2 d ⟨128 + k.val, by omega⟩) := by
  unfold wAct k0_pay24  k0_pay22   k0_pay9
  pointwise

/-- `wSurf` is columns 160 to 191 of the transposed weights. -/
theorem wSurf_apply (x : Vec Ideal S32x192 .f32) (d : Fin 32) (k : Fin 32) :
    wSurf x (ix2 d k) = x (ix2 d ⟨160 + k.val, by omega⟩) := by
  unfold wSurf k0_pay30  k0_pay28   k0_pay9
  pointwise

/-- `wCandPost` is columns 0 to 63 of the transposed weights. -/
theorem wCandPost_apply (x : Vec Ideal S32x160 .f32) (d : Fin 32) (k : Fin 64) :
    wCandPost x (ix2 d k) = x (ix2 d ⟨0 + k.val, by omega⟩) := by
  unfold wCandPost k0_pay36  k0_pay34   k0_pay8
  pointwise

/-- `wCandAuth` is columns 64 to 127 of the transposed weights. -/
theorem wCandAuth_apply (x : Vec Ideal S32x160 .f32) (d : Fin 32) (k : Fin 64) :
    wCandAuth x (ix2 d k) = x (ix2 d ⟨64 + k.val, by omega⟩) := by
  unfold wCandAuth k0_pay43  k0_pay40   k0_pay8
  pointwise

/-- `wCandSurf` is columns 128 to 159 of the transposed weights. -/
theorem wCandSurf_apply (x : Vec Ideal S32x160 .f32) (d : Fin 32) (k : Fin 32) :
    wCandSurf x (ix2 d k) = x (ix2 d ⟨128 + k.val, by omega⟩) := by
  unfold wCandSurf k0_pay49  k0_pay47   k0_pay8
  pointwise

/-- One group of history rows at an entry: four sums. -/
theorem pay52_apply (s0 : Vec Ideal S128x256 .f32) (x0 : Vec Ideal S256x1024 .f32) (s1 : Vec Ideal S128x256 .f32) (x1 : Vec Ideal S256x1024 .f32) (s2 : Vec Ideal S128x128 .f32) (x2 : Vec Ideal S128x1024 .f32) (s3 : Vec Ideal S128x128 .f32) (x3 : Vec Ideal S128x1024 .f32) (r : Fin 128) (b : Fin 1024) :
    k0_pay52 s0 x0 s1 x1 s2 x2 s3 x3 (ix2 r b) = (∑ k : Fin 256, s0 (ix2 r k) * x0 (ix2 k b)) + (∑ k : Fin 256, s1 (ix2 r k) * x1 (ix2 k b))
      + (∑ k : Fin 128, s2 (ix2 r k) * x2 (ix2 k b)) + (∑ k : Fin 128, s3 (ix2 r k) * x3 (ix2 k b)) := by
  unfold k0_pay52
  pointwise

/-- One group of candidate rows at an entry: three sums. -/
theorem pay60_apply (s0 : Vec Ideal S128x256 .f32) (x0 : Vec Ideal S256x1024 .f32) (s1 : Vec Ideal S128x256 .f32) (x1 : Vec Ideal S256x1024 .f32) (s2 : Vec Ideal S128x128 .f32) (x2 : Vec Ideal S128x1024 .f32) (r : Fin 128) (b : Fin 1024) :
    k0_pay60 s0 x0 s1 x1 s2 x2 (ix2 r b) = (∑ k : Fin 256, s0 (ix2 r k) * x0 (ix2 k b)) + (∑ k : Fin 256, s1 (ix2 r k) * x1 (ix2 k b))
      + (∑ k : Fin 128, s2 (ix2 r k) * x2 (ix2 k b)) := by
  unfold k0_pay60
  pointwise

/-- The user rows at an entry. -/
theorem userOut_apply (w : Vec Ideal S32x128 .f32) (x : Vec Ideal S128x1024 .f32) (d : Fin 32) (b : Fin 1024) :
    userOut w x (ix2 d b) = ∑ k : Fin 128, w (ix2 d k) * x (ix2 k b) := by
  unfold userOut k0_pay4
  pointwise

end Cert.KernelIdeal.Kern

end
-- ==== Proof.Kern.Sums.lean ====
module

public import proofs.«01_k».proof.Proof.Kern.Entries

/-! A sum against a block diagonal row is the sum over its one block; the blocks the kernel stores, entry by entry. -/

@[expose] public section

set_option maxRecDepth 16384

noncomputable section

namespace Cert.KernelIdeal.Kern

open Idealize.ShloMosaic Idealize.ShloMosaic.TcCoe Idealize.ShloMosaic.Tactic
open Cert.KernelIdeal.Gen

/-- The constant the weight buffers are cleared with is zero. -/
theorem zeroF_eq : (zeroF (F := Ideal)) = (0 : EReal) := by
  unfold zeroF
  exact Ideal.ofBits_zero_f32

/-- A row of a block diagonal matrix meets one band of the other operand. -/
theorem diag_sum {N K : ℕ} (hN : N = 4 * K) (hK : 0 < K) (w : Vec Ideal ⟨2, ![32, K]⟩ .f32) (f : Fin N → EReal) (r : Fin 128) :
    (∑ k : Fin N, (bdiag (φ := .f32) (N := N) hK (zeroF (F := Ideal)) w (ix2 r k) : EReal) * f k)
      = ∑ k : Fin K, (w (ix2 ⟨r.val % 32, Nat.mod_lt _ (by decide)⟩ k) : EReal)
          * f ⟨K * (r.val / 32) + k.val, by
              have h1 : r.val / 32 ≤ 3 := by omega
              have h2 := Nat.mul_le_mul_left K h1
              have := k.isLt
              omega⟩ := by
  symm
  refine Finset.sum_of_injOn (fun k : Fin K => (⟨K * (r.val / 32) + k.val, by
              have h1 : r.val / 32 ≤ 3 := by omega
              have h2 := Nat.mul_le_mul_left K h1
              have := k.isLt
              omega⟩ : Fin N)) ?_ ?_ ?_ ?_
  · intro a _ b _ h
    have := congrArg Fin.val h
    simp only at this
    exact Fin.ext (by omega)
  · intro a _; simp
  · intro k _ hk
    have hne : ¬ r.val / 32 = k.val / K := by
      intro he
      refine hk ⟨⟨k.val % K, Nat.mod_lt _ hK⟩, by simp, Fin.ext ?_⟩
      show K * (r.val / 32) + k.val % K = k.val
      rw [he]; exact Nat.div_add_mod _ _
    have hz : bdiag (φ := .f32) (N := N) hK (zeroF (F := Ideal)) w (ix2 r k) = (0 : EReal) := (if_neg hne).trans zeroF_eq
    rw [hz, zero_mul]
  · intro k _
    have hd : (K * (r.val / 32) + k.val) / K = r.val / 32 := by
      rw [Nat.mul_add_div hK, Nat.div_eq_of_lt k.isLt, Nat.add_zero]
    have hm : (K * (r.val / 32) + k.val) % K = k.val := by
      rw [Nat.mul_add_mod, Nat.mod_eq_of_lt k.isLt]
    have hb : ∀ h, bdiag (φ := .f32) (N := N) hK (zeroF (F := Ideal)) w (ix2 r ⟨K * (r.val / 32) + k.val, h⟩)
        = w (ix2 ⟨r.val % 32, Nat.mod_lt _ (by decide)⟩ k) := by
      intro h
      refine (if_pos ?_).trans ?_
      · exact hd.symm
      · exact congrArg w (congrArg (ix2 _) (Fin.ext hm))
    simp only [hb]

/-- An entry of the history block is four sums, each over one band of rows of one input. -/
theorem histOut_apply (x13 : Vec Ideal S32x192 .f32) (x0 : Vec Ideal S1280x1024 .f32) (x1 : Vec Ideal S1280x1024 .f32) (x2 : Vec Ideal S640x1024 .f32) (x3 : Vec Ideal S640x1024 .f32) (r : Fin 640) (b : Fin 1024) :
    histOut (wPostDiag x13) (wAuthDiag x13) (wActDiag x13) (wSurfDiag x13) x0 x1 x2 x3 (ix2 r b) =
      (∑ k : Fin 64, (wPost x13 (ix2 ⟨r.val % 32, Nat.mod_lt _ (by decide)⟩ k) : EReal) * x0 (ix2 ⟨64 * (r.val / 32) + k.val, by omega⟩ b))
      + (∑ k : Fin 64, (wAuth x13 (ix2 ⟨r.val % 32, Nat.mod_lt _ (by decide)⟩ k) : EReal) * x1 (ix2 ⟨64 * (r.val / 32) + k.val, by omega⟩ b))
      + (∑ k : Fin 32, (wAct x13 (ix2 ⟨r.val % 32, Nat.mod_lt _ (by decide)⟩ k) : EReal) * x2 (ix2 ⟨32 * (r.val / 32) + k.val, by omega⟩ b))
      + (∑ k : Fin 32, (wSurf x13 (ix2 ⟨r.val % 32, Nat.mod_lt _ (by decide)⟩ k) : EReal) * x3 (ix2 ⟨32 * (r.val / 32) + k.val, by omega⟩ b)) := by
  show histRows (wPostDiag x13) (wAuthDiag x13) (wActDiag x13) (wSurfDiag x13) x0 x1 x2 x3 (r.val / 128) (ix2 ⟨r.val % 128, Nat.mod_lt _ (by decide)⟩ b) = _
  unfold histRows
  rw [pay52_apply]
  unfold wPostDiag wAuthDiag wActDiag wSurfDiag
  rw [diag_sum (by decide) (by decide), diag_sum (by decide) (by decide), diag_sum (by decide) (by decide), diag_sum (by decide) (by decide)]
  have e1 : r.val % 128 % 32 = r.val % 32 := by omega
  simp only [rowsAt, ix2_0, ix2_1, e1]
  refine congrArg₂ (· + ·) (congrArg₂ (· + ·) (congrArg₂ (· + ·) ?_ ?_) ?_) ?_
  all_goals
    refine Finset.sum_congr rfl fun k _ => ?_
    have := k.isLt
    congr 3
    exact Fin.ext (by simp only; omega)

/-- An entry of the candidate block is three sums, each over one band of rows of one input. -/
theorem candOut_apply (x12 : Vec Ideal S32x160 .f32) (x4 : Vec Ideal S512x1024 .f32) (x5 : Vec Ideal S512x1024 .f32) (x6 : Vec Ideal S256x1024 .f32) (r : Fin 256) (b : Fin 1024) :
    candOut (wCandPostDiag x12) (wCandAuthDiag x12) (wCandSurfDiag x12) x4 x5 x6 (ix2 r b) =
      (∑ k : Fin 64, (wCandPost x12 (ix2 ⟨r.val % 32, Nat.mod_lt _ (by decide)⟩ k) : EReal) * x4 (ix2 ⟨64 * (r.val / 32) + k.val, by omega⟩ b))
      + (∑ k : Fin 64, (wCandAuth x12 (ix2 ⟨r.val % 32, Nat.mod_lt _ (by decide)⟩ k) : EReal) * x5 (ix2 ⟨64 * (r.val / 32) + k.val, by omega⟩ b))
      + (∑ k : Fin 32, (wCandSurf x12 (ix2 ⟨r.val % 32, Nat.mod_lt _ (by decide)⟩ k) : EReal) * x6 (ix2 ⟨32 * (r.val / 32) + k.val, by omega⟩ b)) := by
  show candRows (wCandPostDiag x12) (wCandAuthDiag x12) (wCandSurfDiag x12) x4 x5 x6 (r.val / 128) (ix2 ⟨r.val % 128, Nat.mod_lt _ (by decide)⟩ b) = _
  unfold candRows
  rw [pay60_apply]
  unfold wCandPostDiag wCandAuthDiag wCandSurfDiag
  rw [diag_sum (by decide) (by decide), diag_sum (by decide) (by decide), diag_sum (by decide) (by decide)]
  have e1 : r.val % 128 % 32 = r.val % 32 := by omega
  simp only [rowsAt, ix2_0, ix2_1, e1]
  refine congrArg₂ (· + ·) (congrArg₂ (· + ·) ?_ ?_) ?_
  all_goals
    refine Finset.sum_congr rfl fun k _ => ?_
    have := k.isLt
    congr 3
    exact Fin.ext (by simp only; omega)

end Cert.KernelIdeal.Kern

end
-- ==== Proof.Kern.Arrays.lean ====
module

public import proofs.«01_k».proof.Proof.Kern.Reads
public import proofs.«01_k».proof.Proof.Kern.Sums

/-! What each output array holds after the last point, in terms of the arrays the region is entered with. -/

@[expose] public section

set_option maxRecDepth 16384

noncomputable section

namespace Cert.KernelIdeal.Kern

open Idealize.ShloMosaic Idealize.ShloMosaic.TcCoe Idealize.ShloMosaic.Tactic Idealize.ShloMosaic.ValueKit
open Cert.KernelIdeal.Gen
open Idealize.SL.Sem

variable (m : (ℓ : Loc nD τ sig) → Buf (Elt Ideal) ℓ)

/-- An entry of the history result: row `r` is position `r / 32` and output `r % 32`, and the sums run over the four kinds of input features. -/
def histEntry (w : Vec Ideal S32x192 .f32) (xp : Vec Ideal S12800x1024 .f32) (xa : Vec Ideal S12800x1024 .f32) (xt : Vec Ideal S6400x1024 .f32) (xs : Vec Ideal S6400x1024 .f32) (r : Fin 6400) (b : Fin 1024) : EReal :=
  (∑ k : Fin 64, (w (ix2 ⟨r.val % 32, Nat.mod_lt _ (by decide)⟩ ⟨0 + k.val, by omega⟩) : EReal) * xp (ix2 ⟨64 * (r.val / 32) + k.val, by omega⟩ b))
  + (∑ k : Fin 64, (w (ix2 ⟨r.val % 32, Nat.mod_lt _ (by decide)⟩ ⟨64 + k.val, by omega⟩) : EReal) * xa (ix2 ⟨64 * (r.val / 32) + k.val, by omega⟩ b))
  + (∑ k : Fin 32, (w (ix2 ⟨r.val % 32, Nat.mod_lt _ (by decide)⟩ ⟨128 + k.val, by omega⟩) : EReal) * xt (ix2 ⟨32 * (r.val / 32) + k.val, by omega⟩ b))
  + (∑ k : Fin 32, (w (ix2 ⟨r.val % 32, Nat.mod_lt _ (by decide)⟩ ⟨160 + k.val, by omega⟩) : EReal) * xs (ix2 ⟨32 * (r.val / 32) + k.val, by omega⟩ b))

/-- An entry of the candidate result: row `r` is candidate `r / 32` and output `r % 32`, and the sums run over the three kinds of input features. -/
def candEntry (w : Vec Ideal S32x160 .f32) (xp : Vec Ideal S2048x1024 .f32) (xa : Vec Ideal S2048x1024 .f32) (xs : Vec Ideal S1024x1024 .f32) (r : Fin 1024) (b : Fin 1024) : EReal :=
  (∑ k : Fin 64, (w (ix2 ⟨r.val % 32, Nat.mod_lt _ (by decide)⟩ ⟨0 + k.val, by omega⟩) : EReal) * xp (ix2 ⟨64 * (r.val / 32) + k.val, by omega⟩ b))
  + (∑ k : Fin 64, (w (ix2 ⟨r.val % 32, Nat.mod_lt _ (by decide)⟩ ⟨64 + k.val, by omega⟩) : EReal) * xa (ix2 ⟨64 * (r.val / 32) + k.val, by omega⟩ b))
  + (∑ k : Fin 32, (w (ix2 ⟨r.val % 32, Nat.mod_lt _ (by decide)⟩ ⟨128 + k.val, by omega⟩) : EReal) * xs (ix2 ⟨32 * (r.val / 32) + k.val, by omega⟩ b))

/-- An entry of the block stored at point `t` is the entry of the result at the block's place. -/
theorem histAt_apply (c : Dev nD) (t : Fin cfg0.N) (r : Fin 640) (b : Fin 1024) :
    histAt m c t (ix2 r b) = histEntry (V m c main_v21) (V m c main_v1) (V m c main_v3) (V m c main_v5) (V m c main_v7) ⟨640 * (min t.val 9) + r.val, by have := r.isLt; omega⟩ b := by
  unfold histAt
  rw [iblk_13, histOut_apply]
  unfold histEntry
  have hr := r.isLt
  have ht : (tH t).val = min t.val 9 := rfl
  refine congrArg₂ (· + ·) (congrArg₂ (· + ·) (congrArg₂ (· + ·) ?_ ?_) ?_) ?_
  · refine Finset.sum_congr rfl fun k _ => ?_
    rw [wPost_apply, iblk_0]
    have hk := k.isLt
    refine congrArg₂ (· * ·) (congrArg _ (congrArg₂ ix2 (Fin.ext ?_) rfl)) (congrArg _ (congrArg₂ ix2 (Fin.ext ?_) rfl))
    · show r.val % 32 = (640 * (min t.val 9) + r.val) % 32
      omega
    · show 1280 * (min (tH t).val 9) + (64 * (r.val / 32) + k.val) = 64 * ((640 * (min t.val 9) + r.val) / 32) + k.val
      omega
  · refine Finset.sum_congr rfl fun k _ => ?_
    rw [wAuth_apply, iblk_1]
    have hk := k.isLt
    refine congrArg₂ (· * ·) (congrArg _ (congrArg₂ ix2 (Fin.ext ?_) rfl)) (congrArg _ (congrArg₂ ix2 (Fin.ext ?_) rfl))
    · show r.val % 32 = (640 * (min t.val 9) + r.val) % 32
      omega
    · show 1280 * (min (tH t).val 9) + (64 * (r.val / 32) + k.val) = 64 * ((640 * (min t.val 9) + r.val) / 32) + k.val
      omega
  · refine Finset.sum_congr rfl fun k _ => ?_
    rw [wAct_apply, iblk_2]
    have hk := k.isLt
    refine congrArg₂ (· * ·) (congrArg _ (congrArg₂ ix2 (Fin.ext ?_) rfl)) (congrArg _ (congrArg₂ ix2 (Fin.ext ?_) rfl))
    · show r.val % 32 = (640 * (min t.val 9) + r.val) % 32
      omega
    · show 640 * (min (tH t).val 9) + (32 * (r.val / 32) + k.val) = 32 * ((640 * (min t.val 9) + r.val) / 32) + k.val
      omega
  · refine Finset.sum_congr rfl fun k _ => ?_
    rw [wSurf_apply, iblk_3]
    have hk := k.isLt
    refine congrArg₂ (· * ·) (congrArg _ (congrArg₂ ix2 (Fin.ext ?_) rfl)) (congrArg _ (congrArg₂ ix2 (Fin.ext ?_) rfl))
    · show r.val % 32 = (640 * (min t.val 9) + r.val) % 32
      omega
    · show 640 * (min (tH t).val 9) + (32 * (r.val / 32) + k.val) = 32 * ((640 * (min t.val 9) + r.val) / 32) + k.val
      omega

/-- An entry of the block stored at point `t` is the entry of the result at the block's place. -/
theorem candAt_apply (c : Dev nD) (t : Fin cfg0.N) (r : Fin 256) (b : Fin 1024) :
    candAt m c t (ix2 r b) = candEntry (V m c main_v20) (V m c main_v9) (V m c main_v11) (V m c main_v13) ⟨256 * (min (t.val - 10) 3) + r.val, by have := r.isLt; omega⟩ b := by
  unfold candAt
  rw [iblk_12, candOut_apply]
  unfold candEntry
  have hr := r.isLt
  refine congrArg₂ (· + ·) (congrArg₂ (· + ·) ?_ ?_) ?_
  · refine Finset.sum_congr rfl fun k _ => ?_
    rw [wCandPost_apply, iblk_4]
    have hk := k.isLt
    refine congrArg₂ (· * ·) (congrArg _ (congrArg₂ ix2 (Fin.ext ?_) rfl)) (congrArg _ (congrArg₂ ix2 (Fin.ext ?_) rfl))
    · show r.val % 32 = (256 * (min (t.val - 10) 3) + r.val) % 32
      omega
    · show 512 * (min (t.val - 10) 3) + (64 * (r.val / 32) + k.val) = 64 * ((256 * (min (t.val - 10) 3) + r.val) / 32) + k.val
      omega
  · refine Finset.sum_congr rfl fun k _ => ?_
    rw [wCandAuth_apply, iblk_5]
    have hk := k.isLt
    refine congrArg₂ (· * ·) (congrArg _ (congrArg₂ ix2 (Fin.ext ?_) rfl)) (congrArg _ (congrArg₂ ix2 (Fin.ext ?_) rfl))
    · show r.val % 32 = (256 * (min (t.val - 10) 3) + r.val) % 32
      omega
    · show 512 * (min (t.val - 10) 3) + (64 * (r.val / 32) + k.val) = 64 * ((256 * (min (t.val - 10) 3) + r.val) / 32) + k.val
      omega
  · refine Finset.sum_congr rfl fun k _ => ?_
    rw [wCandSurf_apply, iblk_6]
    have hk := k.isLt
    refine congrArg₂ (· * ·) (congrArg _ (congrArg₂ ix2 (Fin.ext ?_) rfl)) (congrArg _ (congrArg₂ ix2 (Fin.ext ?_) rfl))
    · show r.val % 32 = (256 * (min (t.val - 10) 3) + r.val) % 32
      omega
    · show 256 * (min (t.val - 10) 3) + (32 * (r.val / 32) + k.val) = 32 * ((256 * (min (t.val - 10) 3) + r.val) / 32) + k.val
      omega

/-- Output window 14 is at row block `min t.val 9` at point `t`. -/
theorem idx_14 : ∀ t : Fin cfg0.N, win0_14.index t = ![min t.val 9, 0] :=
  (by decide +kernel : ∀ t : Fin grid0.N, win0_14.index t = ![min t.val 9, 0])

/-- A place in output block 14 at point `t`, in its array. -/
theorem emb_14 (t : Fin cfg0.N) (y : S640x1024.Idx) :
    ((win0_14.blk t).view.emb y : S6400x1024.Idx) = ix2 (⟨640 * (min t.val 9) + (y 0).val, by have : (y 0).val < 640 := (y 0).isLt; omega⟩ : Fin 6400) (y 1) := by
  have e := idx_14
  blk_ext [e]

/-- Output array 14 after the last point. -/
theorem arr_14 (c : Dev nD) : (dats m 0 c).arrAt 14 cfg0.N =
    (fun i : S6400x1024.Idx => histEntry (V m c main_v21) (V m c main_v1) (V m c main_v3) (V m c main_v5) (V m c main_v7) (i 0) (i 1) : Vec Ideal S6400x1024 .f32) := by
  refine (dats m 0 c).arrAt_eq_of_covers 14 _ (by decide +kernel) fun t hf (y : S640x1024.Idx) => ?_
  blk_simp
  rw [after_14]
  refine Eq.trans ?_ (congrArg (fun i : S6400x1024.Idx => histEntry (V m c main_v21) (V m c main_v1) (V m c main_v3) (V m c main_v5) (V m c main_v7) (i 0) (i 1)) (emb_14 t y).symm)
  refine (congrArg (histAt m c t) (eq_ix2 y)).trans ?_
  exact histAt_apply m c t (y 0) (y 1)

/-- Output window 15 is at row block `min (t.val - 10) 3` at point `t`. -/
theorem idx_15 : ∀ t : Fin cfg0.N, win0_15.index t = ![min (t.val - 10) 3, 0] :=
  (by decide +kernel : ∀ t : Fin grid0.N, win0_15.index t = ![min (t.val - 10) 3, 0])

/-- A place in output block 15 at point `t`, in its array. -/
theorem emb_15 (t : Fin cfg0.N) (y : S256x1024.Idx) :
    ((win0_15.blk t).view.emb y : S1024x1024.Idx) = ix2 (⟨256 * (min (t.val - 10) 3) + (y 0).val, by have : (y 0).val < 256 := (y 0).isLt; omega⟩ : Fin 1024) (y 1) := by
  have e := idx_15
  blk_ext [e]

/-- Output array 15 after the last point. -/
theorem arr_15 (c : Dev nD) : (dats m 0 c).arrAt 15 cfg0.N =
    (fun i : S1024x1024.Idx => candEntry (V m c main_v20) (V m c main_v9) (V m c main_v11) (V m c main_v13) (i 0) (i 1) : Vec Ideal S1024x1024 .f32) := by
  refine (dats m 0 c).arrAt_eq_of_covers 15 _ (by decide +kernel) fun t hf (y : S256x1024.Idx) => ?_
  blk_simp
  rw [after_15]
  refine Eq.trans ?_ (congrArg (fun i : S1024x1024.Idx => candEntry (V m c main_v20) (V m c main_v9) (V m c main_v11) (V m c main_v13) (i 0) (i 1)) (emb_15 t y).symm)
  refine (congrArg (candAt m c t) (eq_ix2 y)).trans ?_
  exact candAt_apply m c t (y 0) (y 1)

/-- Output window 16 is its whole array at every point. -/
theorem idx_16 : ∀ t : Fin cfg0.N, win0_16.index t = ![0, 0] :=
  (by decide +kernel : ∀ t : Fin grid0.N, win0_16.index t = ![0, 0])

/-- A place in output block 16 is the same place in its array. -/
theorem emb_16 (t : Fin cfg0.N) (y : S32x1024.Idx) : ((win0_16.blk t).view.emb y : S32x1024.Idx) = y := by
  have e := idx_16
  blk_ext [e]

/-- Output array 16 after the last point. -/
theorem arr_16 (c : Dev nD) : (dats m 0 c).arrAt 16 cfg0.N = (userOut (V m c main_v19) (V m c main_v15) : Vec Ideal S32x1024 .f32) := by
  refine (dats m 0 c).arrAt_eq_of_covers 16 _ (by decide +kernel) fun t hf (y : S32x1024.Idx) => ?_
  blk_simp
  rw [after_16, iblk_11, iblk_7]
  exact congrArg (userOut (V m c main_v19) (V m c main_v15) : Vec Ideal S32x1024 .f32) (emb_16 t y).symm

/-- Output window 17 is its whole array at every point. -/
theorem idx_17 : ∀ t : Fin cfg0.N, win0_17.index t = ![0, 0] :=
  (by decide +kernel : ∀ t : Fin grid0.N, win0_17.index t = ![0, 0])

/-- A place in output block 17 is the same place in its array. -/
theorem emb_17 (t : Fin cfg0.N) (y : S1x1024.Idx) : ((win0_17.blk t).view.emb y : S1x1024.Idx) = y := by
  have e := idx_17
  blk_ext [e]

/-- Output array 17 after the last point. -/
theorem arr_17 (c : Dev nD) : (dats m 0 c).arrAt 17 cfg0.N = (umaskOut (V m c main_v16) : Vec Ideal S1x1024 .i32) := by
  refine (dats m 0 c).arrAt_eq_of_covers 17 _ (by decide +kernel) fun t hf (y : S1x1024.Idx) => ?_
  blk_simp
  rw [after_17, iblk_8]
  exact congrArg (umaskOut (V m c main_v16) : Vec Ideal S1x1024 .i32) (emb_17 t y).symm

/-- Output window 18 is its whole array at every point. -/
theorem idx_18 : ∀ t : Fin cfg0.N, win0_18.index t = ![0, 0] :=
  (by decide +kernel : ∀ t : Fin grid0.N, win0_18.index t = ![0, 0])

/-- A place in output block 18 is the same place in its array. -/
theorem emb_18 (t : Fin cfg0.N) (y : S200x1024.Idx) : ((win0_18.blk t).view.emb y : S200x1024.Idx) = y := by
  have e := idx_18
  blk_ext [e]

/-- Output array 18 after the last point. -/
theorem arr_18 (c : Dev nD) : (dats m 0 c).arrAt 18 cfg0.N = (hmaskOut (V m c main_v17) : Vec Ideal S200x1024 .i32) := by
  refine (dats m 0 c).arrAt_eq_of_covers 18 _ (by decide +kernel) fun t hf (y : S200x1024.Idx) => ?_
  blk_simp
  rw [after_18, iblk_9]
  exact congrArg (hmaskOut (V m c main_v17) : Vec Ideal S200x1024 .i32) (emb_18 t y).symm

/-- Output window 19 is its whole array at every point. -/
theorem idx_19 : ∀ t : Fin cfg0.N, win0_19.index t = ![0, 0] :=
  (by decide +kernel : ∀ t : Fin grid0.N, win0_19.index t = ![0, 0])

/-- A place in output block 19 is the same place in its array. -/
theorem emb_19 (t : Fin cfg0.N) (y : S32x1024.Idx) : ((win0_19.blk t).view.emb y : S32x1024.Idx) = y := by
  have e := idx_19
  blk_ext [e]

/-- Output array 19 after the last point. -/
theorem arr_19 (c : Dev nD) : (dats m 0 c).arrAt 19 cfg0.N = (cmaskOut (V m c main_v18) : Vec Ideal S32x1024 .i32) := by
  refine (dats m 0 c).arrAt_eq_of_covers 19 _ (by decide +kernel) fun t hf (y : S32x1024.Idx) => ?_
  blk_simp
  rw [after_19, iblk_10]
  exact congrArg (cmaskOut (V m c main_v18) : Vec Ideal S32x1024 .i32) (emb_19 t y).symm

end Cert.KernelIdeal.Kern

end
-- ==== Proof.Kern.Cases.lean ====
module

public import proofs.«01_k».proof.Proof.Kern.Data

/-! The whole body in each of the four kinds of grid point, over any buffers. -/

@[expose] public section

set_option maxRecDepth 16384

noncomputable section

namespace Cert.KernelIdeal.Kern

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

variable (i : grid0.Coords)
variable (arg1 : Memref sig .tc .vmem S1280x1024 .f32) (harg1 : arg1.IsWhole)
  (arg2 : Memref sig .tc .vmem S1280x1024 .f32) (harg2 : arg2.IsWhole)
  (arg3 : Memref sig .tc .vmem S640x1024 .f32) (harg3 : arg3.IsWhole)
  (arg4 : Memref sig .tc .vmem S640x1024 .f32) (harg4 : arg4.IsWhole)
  (arg5 : Memref sig .tc .vmem S512x1024 .f32) (harg5 : arg5.IsWhole)
  (arg6 : Memref sig .tc .vmem S512x1024 .f32) (harg6 : arg6.IsWhole)
  (arg7 : Memref sig .tc .vmem S256x1024 .f32) (harg7 : arg7.IsWhole)
  (arg8 : Memref sig .tc .vmem S128x1024 .f32) (harg8 : arg8.IsWhole)
  (arg9 : Memref sig .tc .vmem S4x1024 .i32) (harg9 : arg9.IsWhole)
  (arg10 : Memref sig .tc .vmem S200x2x1024 .i32) (harg10 : arg10.IsWhole)
  (arg11 : Memref sig .tc .vmem S32x2x1024 .i32) (harg11 : arg11.IsWhole)
  (arg12 : Memref sig .tc .vmem S32x128 .f32) (harg12 : arg12.IsWhole)
  (arg13 : Memref sig .tc .vmem S32x160 .f32) (harg13 : arg13.IsWhole)
  (arg14 : Memref sig .tc .vmem S32x192 .f32) (harg14 : arg14.IsWhole)
  (arg15 : Memref sig .tc .vmem S640x1024 .f32) (harg15 : arg15.IsWhole)
  (arg16 : Memref sig .tc .vmem S256x1024 .f32) (harg16 : arg16.IsWhole)
  (arg17 : Memref sig .tc .vmem S32x1024 .f32) (harg17 : arg17.IsWhole)
  (arg18 : Memref sig .tc .vmem S1x1024 .i32) (harg18 : arg18.IsWhole)
  (arg19 : Memref sig .tc .vmem S200x1024 .i32) (harg19 : arg19.IsWhole)
  (arg20 : Memref sig .tc .vmem S32x1024 .i32) (harg20 : arg20.IsWhole)
  (arg21 : Memref sig .tc .vmem S128x256 .f32) (harg21 : arg21.IsWhole)
  (arg22 : Memref sig .tc .vmem S128x256 .f32) (harg22 : arg22.IsWhole)
  (arg23 : Memref sig .tc .vmem S128x128 .f32) (harg23 : arg23.IsWhole)
  (arg24 : Memref sig .tc .vmem S128x128 .f32) (harg24 : arg24.IsWhole)
  (arg25 : Memref sig .tc .vmem S128x256 .f32) (harg25 : arg25.IsWhole)
  (arg26 : Memref sig .tc .vmem S128x256 .f32) (harg26 : arg26.IsWhole)
  (arg27 : Memref sig .tc .vmem S128x128 .f32) (harg27 : arg27.IsWhole)

/-- The first point fills the weights and stores a block of history rows. -/
theorem case_first (h0 : (Scalar.cmpi .ne (Scalar.extui (Scalar.cmpi .eq (BitVec.ofNat 32 (i 0).val) 0#32)) 0#32) = 1#1) (h1 : k0_cond2 i = 1#1) (h2 : ¬ k0_cond3 i = 1#1) (h3 : ¬ k0_cond4 i = 1#1) (c : Dev nD) (x0 : Vec F S1280x1024 .f32) (x1 : Vec F S1280x1024 .f32) (x2 : Vec F S640x1024 .f32) (x3 : Vec F S640x1024 .f32) (x12 : Vec F S32x160 .f32) (x13 : Vec F S32x192 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg13 fullShare x12 ∗ owns (c : Thread nD τ) arg14 fullShare x13 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg13 fullShare x12 ∗ owns (c : Thread nD τ) arg14 fullShare x13 ∗ owns (c : Thread nD τ) arg21 fullShare (wPostDiag x13) ∗ owns (c : Thread nD τ) arg22 fullShare (wAuthDiag x13) ∗ owns (c : Thread nD τ) arg23 fullShare (wActDiag x13) ∗ owns (c : Thread nD τ) arg24 fullShare (wSurfDiag x13) ∗ owns (c : Thread nD τ) arg25 fullShare (wCandPostDiag x12) ∗ owns (c : Thread nD τ) arg26 fullShare (wCandAuthDiag x12) ∗ owns (c : Thread nD τ) arg27 fullShare (wCandSurfDiag x12) ∗ owns (c : Thread nD τ) arg15 fullShare (histOut (wPostDiag x13) (wAuthDiag x13) (wActDiag x13) (wSurfDiag x13) x0 x1 x2 x3)) -∗ K ⟨⟩))
      ⊢ wp frame (wpE (defs₀ (F := F)) Variants.none c none) E (cc0__fused_kernel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  rw [body_eq, if_pos h0, if_pos h1, if_neg h2, if_neg h3]
  simp only [pure_bind]
  iintro ⟨H1, H2, H3, H4, H13, H14, H21, H22, H23, H24, H25, H26, H27, H15, Hk⟩
  rw [wp_bind]
  iapply fill_run i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 c x12 x13 _ _
  isplitl [H13]; · iexact H13
  isplitl [H14]; · iexact H14
  isplitl [H21]; · iexact H21
  isplitl [H22]; · iexact H22
  isplitl [H23]; · iexact H23
  isplitl [H24]; · iexact H24
  isplitl [H25]; · iexact H25
  isplitl [H26]; · iexact H26
  isplitl [H27]; · iexact H27
  iintro ⟨H13, H14, H21, H22, H23, H24, H25, H26, H27⟩
  rw [wp_bind]
  iapply hist_run i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 c x0 x1 x2 x3 (wPostDiag x13) (wAuthDiag x13) (wActDiag x13) (wSurfDiag x13) _ _
  isplitl [H1]; · iexact H1
  isplitl [H2]; · iexact H2
  isplitl [H3]; · iexact H3
  isplitl [H4]; · iexact H4
  isplitl [H21]; · iexact H21
  isplitl [H22]; · iexact H22
  isplitl [H23]; · iexact H23
  isplitl [H24]; · iexact H24
  isplitl [H15]; · iexact H15
  iintro ⟨H1, H2, H3, H4, H21, H22, H23, H24, H15⟩
  sl_step
  iapply Hk
  isplitl [H1]; · iexact H1
  isplitl [H2]; · iexact H2
  isplitl [H3]; · iexact H3
  isplitl [H4]; · iexact H4
  isplitl [H13]; · iexact H13
  isplitl [H14]; · iexact H14
  isplitl [H21]; · iexact H21
  isplitl [H22]; · iexact H22
  isplitl [H23]; · iexact H23
  isplitl [H24]; · iexact H24
  isplitl [H25]; · iexact H25
  isplitl [H26]; · iexact H26
  isplitl [H27]; · iexact H27
  iexact H15

/-- A later history point stores a block of history rows. -/
theorem case_hist (h0 : ¬ (Scalar.cmpi .ne (Scalar.extui (Scalar.cmpi .eq (BitVec.ofNat 32 (i 0).val) 0#32)) 0#32) = 1#1) (h1 : k0_cond2 i = 1#1) (h2 : ¬ k0_cond3 i = 1#1) (h3 : ¬ k0_cond4 i = 1#1) (c : Dev nD) (x0 : Vec F S1280x1024 .f32) (x1 : Vec F S1280x1024 .f32) (x2 : Vec F S640x1024 .f32) (x3 : Vec F S640x1024 .f32) (s0 : Vec F S128x256 .f32) (s1 : Vec F S128x256 .f32) (s2 : Vec F S128x128 .f32) (s3 : Vec F S128x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg21 fullShare s0 ∗ owns (c : Thread nD τ) arg22 fullShare s1 ∗ owns (c : Thread nD τ) arg23 fullShare s2 ∗ owns (c : Thread nD τ) arg24 fullShare s3 ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg21 fullShare s0 ∗ owns (c : Thread nD τ) arg22 fullShare s1 ∗ owns (c : Thread nD τ) arg23 fullShare s2 ∗ owns (c : Thread nD τ) arg24 fullShare s3 ∗ owns (c : Thread nD τ) arg15 fullShare (histOut s0 s1 s2 s3 x0 x1 x2 x3)) -∗ K ⟨⟩))
      ⊢ wp frame (wpE (defs₀ (F := F)) Variants.none c none) E (cc0__fused_kernel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  rw [body_eq, if_neg h0, if_pos h1, if_neg h2, if_neg h3]
  simp only [pure_bind]
  iintro ⟨H1, H2, H3, H4, H21, H22, H23, H24, H15, Hk⟩
  rw [wp_bind]
  iapply hist_run i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 c x0 x1 x2 x3 s0 s1 s2 s3 _ _
  isplitl [H1]; · iexact H1
  isplitl [H2]; · iexact H2
  isplitl [H3]; · iexact H3
  isplitl [H4]; · iexact H4
  isplitl [H21]; · iexact H21
  isplitl [H22]; · iexact H22
  isplitl [H23]; · iexact H23
  isplitl [H24]; · iexact H24
  isplitl [H15]; · iexact H15
  iintro ⟨H1, H2, H3, H4, H21, H22, H23, H24, H15⟩
  sl_step
  iapply Hk
  isplitl [H1]; · iexact H1
  isplitl [H2]; · iexact H2
  isplitl [H3]; · iexact H3
  isplitl [H4]; · iexact H4
  isplitl [H21]; · iexact H21
  isplitl [H22]; · iexact H22
  isplitl [H23]; · iexact H23
  isplitl [H24]; · iexact H24
  iexact H15

/-- A candidate point but the last stores a block of candidate rows. -/
theorem case_cand (h0 : ¬ (Scalar.cmpi .ne (Scalar.extui (Scalar.cmpi .eq (BitVec.ofNat 32 (i 0).val) 0#32)) 0#32) = 1#1) (h1 : ¬ k0_cond2 i = 1#1) (h2 : k0_cond3 i = 1#1) (h3 : ¬ k0_cond4 i = 1#1) (c : Dev nD) (x4 : Vec F S512x1024 .f32) (x5 : Vec F S512x1024 .f32) (x6 : Vec F S256x1024 .f32) (s4 : Vec F S128x256 .f32) (s5 : Vec F S128x256 .f32) (s6 : Vec F S128x128 .f32) (E : Set ℕ) (K : PUnit → sProp 𝕄) :
    iprop(owns (c : Thread nD τ) arg5 fullShare x4 ∗ owns (c : Thread nD τ) arg6 fullShare x5 ∗ owns (c : Thread nD τ) arg7 fullShare x6 ∗ owns (c : Thread nD τ) arg25 fullShare s4 ∗ owns (c : Thread nD τ) arg26 fullShare s5 ∗ owns (c : Thread nD τ) arg27 fullShare s6 ∗ (∃ d, owns (c : Thread nD τ) arg16 fullShare d)
        ∗ (iprop(owns (c : Thread nD τ) arg5 fullShare x4 ∗ owns (c : Thread nD τ) arg6 fullShare x5 ∗ owns (c : Thread nD τ) arg7 fullShare x6 ∗ owns (c : Thread nD τ) arg25 fullShare s4 ∗ owns (c : Thread nD τ) arg26 fullShare s5 ∗ owns (c : Thread nD τ) arg27 fullShare s6 ∗ owns (c : Thread nD τ) arg16 fullShare (candOut s4 s5 s6 x4 x5 x6)) -∗ K ⟨⟩))
      ⊢ wp frame (wpE (defs₀ (F := F)) Variants.none c none) E (cc0__fused_kernel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  rw [body_eq, if_neg h0, if_neg h1, if_pos h2, if_neg h3]
  simp only [pure_bind]
  iintro ⟨H5, H6, H7, H25, H26, H27, H16, Hk⟩
  rw [wp_bind]
  iapply cand_run i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 c x4 x5 x6 s4 s5 s6 _ _
  isplitl [H5]; · iexact H5
  isplitl [H6]; · iexact H6
  isplitl [H7]; · iexact H7
  isplitl [H25]; · iexact H25
  isplitl [H26]; · iexact H26
  isplitl [H27]; · iexact H27
  isplitl [H16]; · iexact H16
  iintro ⟨H5, H6, H7, H25, H26, H27, H16⟩
  sl_step
  iapply Hk
  isplitl [H5]; · iexact H5
  isplitl [H6]; · iexact H6
  isplitl [H7]; · iexact H7
  isplitl [H25]; · iexact H25
  isplitl [H26]; · iexact H26
  isplitl [H27]; · iexact H27
  iexact H16

/-- The last point stores a block of candidate rows, the user rows and the three masks. -/
theorem case_last (h0 : ¬ (Scalar.cmpi .ne (Scalar.extui (Scalar.cmpi .eq (BitVec.ofNat 32 (i 0).val) 0#32)) 0#32) = 1#1) (h1 : ¬ k0_cond2 i = 1#1) (h2 : k0_cond3 i = 1#1) (h3 : k0_cond4 i = 1#1) (c : Dev nD) (x4 : Vec F S512x1024 .f32) (x5 : Vec F S512x1024 .f32) (x6 : Vec F S256x1024 .f32) (s4 : Vec F S128x256 .f32) (s5 : Vec F S128x256 .f32) (s6 : Vec F S128x128 .f32) (x7 : Vec F S128x1024 .f32) (x8 : Vec F S4x1024 .i32) (x9 : Vec F S200x2x1024 .i32) (x10 : Vec F S32x2x1024 .i32) (x11 : Vec F S32x128 .f32) (E : Set ℕ) (K : PUnit → sProp 𝕄) :
    iprop(owns (c : Thread nD τ) arg5 fullShare x4 ∗ owns (c : Thread nD τ) arg6 fullShare x5 ∗ owns (c : Thread nD τ) arg7 fullShare x6 ∗ owns (c : Thread nD τ) arg25 fullShare s4 ∗ owns (c : Thread nD τ) arg26 fullShare s5 ∗ owns (c : Thread nD τ) arg27 fullShare s6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
        ∗ (iprop(owns (c : Thread nD τ) arg5 fullShare x4 ∗ owns (c : Thread nD τ) arg6 fullShare x5 ∗ owns (c : Thread nD τ) arg7 fullShare x6 ∗ owns (c : Thread nD τ) arg25 fullShare s4 ∗ owns (c : Thread nD τ) arg26 fullShare s5 ∗ owns (c : Thread nD τ) arg27 fullShare s6 ∗ owns (c : Thread nD τ) arg16 fullShare (candOut s4 s5 s6 x4 x5 x6) ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg17 fullShare (userOut x11 x7) ∗ owns (c : Thread nD τ) arg18 fullShare (umaskOut x8) ∗ owns (c : Thread nD τ) arg19 fullShare (hmaskOut x9) ∗ owns (c : Thread nD τ) arg20 fullShare (cmaskOut x10)) -∗ K ⟨⟩))
      ⊢ wp frame (wpE (defs₀ (F := F)) Variants.none c none) E (cc0__fused_kernel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  rw [body_eq, if_neg h0, if_neg h1, if_pos h2, if_pos h3]
  simp only [pure_bind]
  iintro ⟨H5, H6, H7, H25, H26, H27, H8, H9, H10, H11, H12, H16, H17, H18, H19, H20, Hk⟩
  rw [wp_bind]
  iapply cand_run i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 c x4 x5 x6 s4 s5 s6 _ _
  isplitl [H5]; · iexact H5
  isplitl [H6]; · iexact H6
  isplitl [H7]; · iexact H7
  isplitl [H25]; · iexact H25
  isplitl [H26]; · iexact H26
  isplitl [H27]; · iexact H27
  isplitl [H16]; · iexact H16
  iintro ⟨H5, H6, H7, H25, H26, H27, H16⟩
  iapply last_run arg8 harg8 arg9 harg9 arg10 harg10 arg11 harg11 arg12 harg12 arg17 arg18 arg19 arg20 c x7 x8 x9 x10 x11 _ _
  isplitl [H8]; · iexact H8
  isplitl [H9]; · iexact H9
  isplitl [H10]; · iexact H10
  isplitl [H11]; · iexact H11
  isplitl [H12]; · iexact H12
  isplitl [H17]; · iexact H17
  isplitl [H18]; · iexact H18
  isplitl [H19]; · iexact H19
  isplitl [H20]; · iexact H20
  iintro ⟨H8, H9, H10, H11, H12, H17, H18, H19, H20⟩
  iapply Hk
  isplitl [H5]; · iexact H5
  isplitl [H6]; · iexact H6
  isplitl [H7]; · iexact H7
  isplitl [H25]; · iexact H25
  isplitl [H26]; · iexact H26
  isplitl [H27]; · iexact H27
  isplitl [H16]; · iexact H16
  isplitl [H8]; · iexact H8
  isplitl [H9]; · iexact H9
  isplitl [H10]; · iexact H10
  isplitl [H11]; · iexact H11
  isplitl [H12]; · iexact H12
  isplitl [H17]; · iexact H17
  isplitl [H18]; · iexact H18
  isplitl [H19]; · iexact H19
  iexact H20

end Cert.KernelIdeal.Kern

end
-- ==== Proof.Kern.Body.lean ====
module

public import proofs.«01_k».proof.Proof.Kern.Cases

/-! The body at every grid point takes each buffer to what the proof data says of it. -/

@[expose] public section

set_option maxRecDepth 16384

noncomputable section

namespace Cert.KernelIdeal.Kern

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ (UR sig nD τ) ℕ

/-- The buffer each window uses at point `t`. -/
abbrev bm0 (t : Fin cfg0.N) : Memref sig .tc .vmem S1280x1024 .f32 := win0_0.stage (cfg0.slots t 0)
abbrev bm1 (t : Fin cfg0.N) : Memref sig .tc .vmem S1280x1024 .f32 := win0_1.stage (cfg0.slots t 1)
abbrev bm2 (t : Fin cfg0.N) : Memref sig .tc .vmem S640x1024 .f32 := win0_2.stage (cfg0.slots t 2)
abbrev bm3 (t : Fin cfg0.N) : Memref sig .tc .vmem S640x1024 .f32 := win0_3.stage (cfg0.slots t 3)
abbrev bm4 (t : Fin cfg0.N) : Memref sig .tc .vmem S512x1024 .f32 := win0_4.stage (cfg0.slots t 4)
abbrev bm5 (t : Fin cfg0.N) : Memref sig .tc .vmem S512x1024 .f32 := win0_5.stage (cfg0.slots t 5)
abbrev bm6 (t : Fin cfg0.N) : Memref sig .tc .vmem S256x1024 .f32 := win0_6.stage (cfg0.slots t 6)
abbrev bm7 (t : Fin cfg0.N) : Memref sig .tc .vmem S128x1024 .f32 := win0_7.stage (cfg0.slots t 7)
abbrev bm8 (t : Fin cfg0.N) : Memref sig .tc .vmem S4x1024 .i32 := win0_8.stage (cfg0.slots t 8)
abbrev bm9 (t : Fin cfg0.N) : Memref sig .tc .vmem S200x2x1024 .i32 := win0_9.stage (cfg0.slots t 9)
abbrev bm10 (t : Fin cfg0.N) : Memref sig .tc .vmem S32x2x1024 .i32 := win0_10.stage (cfg0.slots t 10)
abbrev bm11 (t : Fin cfg0.N) : Memref sig .tc .vmem S32x128 .f32 := win0_11.stage (cfg0.slots t 11)
abbrev bm12 (t : Fin cfg0.N) : Memref sig .tc .vmem S32x160 .f32 := win0_12.stage (cfg0.slots t 12)
abbrev bm13 (t : Fin cfg0.N) : Memref sig .tc .vmem S32x192 .f32 := win0_13.stage (cfg0.slots t 13)
abbrev bm14 (t : Fin cfg0.N) : Memref sig .tc .vmem S640x1024 .f32 := win0_14.stage (cfg0.slots t 14)
abbrev bm15 (t : Fin cfg0.N) : Memref sig .tc .vmem S256x1024 .f32 := win0_15.stage (cfg0.slots t 15)
abbrev bm16 (t : Fin cfg0.N) : Memref sig .tc .vmem S32x1024 .f32 := win0_16.stage (cfg0.slots t 16)
abbrev bm17 (t : Fin cfg0.N) : Memref sig .tc .vmem S1x1024 .i32 := win0_17.stage (cfg0.slots t 17)
abbrev bm18 (t : Fin cfg0.N) : Memref sig .tc .vmem S200x1024 .i32 := win0_18.stage (cfg0.slots t 18)
abbrev bm19 (t : Fin cfg0.N) : Memref sig .tc .vmem S32x1024 .i32 := win0_19.stage (cfg0.slots t 19)

/-- What the body is handed at point `t`. -/
def bodyPre (c : Dev nD) (t : Fin cfg0.N) : sProp 𝕄 :=
  iprop((dats m 0 c).Φ t.castSucc ∗ (dats m 0 c).owesAt () t.castSucc
    ∗ (∃ d, owns (c : Thread nD τ) (bm0 t) fullShare ((dats m 0 c).before 0 t d))
    ∗ (∃ d, owns (c : Thread nD τ) (bm1 t) fullShare ((dats m 0 c).before 1 t d))
    ∗ (∃ d, owns (c : Thread nD τ) (bm2 t) fullShare ((dats m 0 c).before 2 t d))
    ∗ (∃ d, owns (c : Thread nD τ) (bm3 t) fullShare ((dats m 0 c).before 3 t d))
    ∗ (∃ d, owns (c : Thread nD τ) (bm4 t) fullShare ((dats m 0 c).before 4 t d))
    ∗ (∃ d, owns (c : Thread nD τ) (bm5 t) fullShare ((dats m 0 c).before 5 t d))
    ∗ (∃ d, owns (c : Thread nD τ) (bm6 t) fullShare ((dats m 0 c).before 6 t d))
    ∗ (∃ d, owns (c : Thread nD τ) (bm7 t) fullShare ((dats m 0 c).before 7 t d))
    ∗ (∃ d, owns (c : Thread nD τ) (bm8 t) fullShare ((dats m 0 c).before 8 t d))
    ∗ (∃ d, owns (c : Thread nD τ) (bm9 t) fullShare ((dats m 0 c).before 9 t d))
    ∗ (∃ d, owns (c : Thread nD τ) (bm10 t) fullShare ((dats m 0 c).before 10 t d))
    ∗ (∃ d, owns (c : Thread nD τ) (bm11 t) fullShare ((dats m 0 c).before 11 t d))
    ∗ (∃ d, owns (c : Thread nD τ) (bm12 t) fullShare ((dats m 0 c).before 12 t d))
    ∗ (∃ d, owns (c : Thread nD τ) (bm13 t) fullShare ((dats m 0 c).before 13 t d))
    ∗ (∃ d, owns (c : Thread nD τ) (bm14 t) fullShare ((dats m 0 c).before 14 t d))
    ∗ (∃ d, owns (c : Thread nD τ) (bm15 t) fullShare ((dats m 0 c).before 15 t d))
    ∗ (∃ d, owns (c : Thread nD τ) (bm16 t) fullShare ((dats m 0 c).before 16 t d))
    ∗ (∃ d, owns (c : Thread nD τ) (bm17 t) fullShare ((dats m 0 c).before 17 t d))
    ∗ (∃ d, owns (c : Thread nD τ) (bm18 t) fullShare ((dats m 0 c).before 18 t d))
    ∗ (∃ d, owns (c : Thread nD τ) (bm19 t) fullShare ((dats m 0 c).before 19 t d)))

/-- What the body hands back at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t)

/-- An output the point stores into is handed back at what the point stores. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact
  have h' : cfg0.idle w (cfg0.grid.coords t) = false := h
  rw [h']

/-- An output the point leaves alone but writes back is handed back at what the data says. -/
theorem leaves_flush (c : Dev nD) (w : Fin cfg0.W) (t : Fin cfg0.N) (h : (cfg0.win w).flush t = true) :
    (dats m 0 c).leavesExact w t = owns (c : Thread nD τ) ((cfg0.win w).stage (cfg0.slots t w)) fullShare ((dats m 0 c).after w t) := by
  unfold Dat.leavesExact
  cases hi : cfg0.idle w (cfg0.grid.coords t) <;> simp only [h]

set_option maxHeartbeats 1000000 in
/-- The body at the first point. -/
theorem sound_first (c : Dev nD) (t : Fin cfg0.N) (hz : t.val = 0) :
    bodyPre m c t ⊢ wp frame (wpE (defs₀ (F := F)) Variants.none c none) Set.univ (bodyAt0 t) (fun _ => bodyPost m c t) := by
  have ht := pt_lt t
  obtain rfl : t = t0 := Fin.ext hz
  unfold bodyPre bodyPost bodyAt0
  simp only [before_0, before_1, before_2, before_3, before_4, before_5, before_6, before_7, before_8, before_9, before_10, before_11, before_12, before_13]
  rw [show (dats m 0 c).owesAt () t0.succ = (dats m 0 c).owesAt () t0.castSucc from rfl]
  rw [phi_pos m c t0.succ (by rw [Fin.val_succ]; omega)]
  rw [leaves_live m c 0 t0 (live_in 0 (by decide) _), after_0, leaves_live m c 1 t0 (live_in 1 (by decide) _), after_1, leaves_live m c 2 t0 (live_in 2 (by decide) _), after_2, leaves_live m c 3 t0 (live_in 3 (by decide) _), after_3, leaves_live m c 4 t0 (live_in 4 (by decide) _), after_4, leaves_live m c 5 t0 (live_in 5 (by decide) _), after_5, leaves_live m c 6 t0 (live_in 6 (by decide) _), after_6, leaves_live m c 7 t0 (live_in 7 (by decide) _), after_7, leaves_live m c 8 t0 (live_in 8 (by decide) _), after_8, leaves_live m c 9 t0 (live_in 9 (by decide) _), after_9, leaves_live m c 10 t0 (live_in 10 (by decide) _), after_10, leaves_live m c 11 t0 (live_in 11 (by decide) _), after_11, leaves_live m c 12 t0 (live_in 12 (by decide) _), after_12, leaves_live m c 13 t0 (live_in 13 (by decide) _), after_13]
  rw [leaves_live m c 14 t0 ((idle_hist t0).trans (decide_eq_false (by omega))), after_14]
  rw [Dat.leavesExact_idle (dats m 0 c) 15 t0 ((idle_cand t0).trans (decide_eq_true (by omega))) ((flush_cand t0).trans (decide_eq_false (by omega)))]
  rw [Dat.leavesExact_idle (dats m 0 c) 16 t0 ((idle_16 t0).trans (decide_eq_true (by omega))) ((flush_16 t0).trans (decide_eq_false (by omega)))]
  rw [Dat.leavesExact_idle (dats m 0 c) 17 t0 ((idle_17 t0).trans (decide_eq_true (by omega))) ((flush_17 t0).trans (decide_eq_false (by omega)))]
  rw [Dat.leavesExact_idle (dats m 0 c) 18 t0 ((idle_18 t0).trans (decide_eq_true (by omega))) ((flush_18 t0).trans (decide_eq_false (by omega)))]
  rw [Dat.leavesExact_idle (dats m 0 c) 19 t0 ((idle_19 t0).trans (decide_eq_true (by omega))) ((flush_19 t0).trans (decide_eq_false (by omega)))]
  rw [phi_zero m c t0.castSucc rfl, PhiA0_eq]
  rw [show histAt m c t0 = histOut (wPostDiag (iblk m c 13 t0)) (wAuthDiag (iblk m c 13 t0)) (wActDiag (iblk m c 13 t0)) (wSurfDiag (iblk m c 13 t0)) (iblk m c 0 t0) (iblk m c 1 t0) (iblk m c 2 t0) (iblk m c 3 t0) from by unfold histAt; rw [tH_lt t0 (by omega)]]
  unfold weights
  iintro ⟨⟨⟨S0, S1, S2, S3, S4, S5, S6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply case_first (grid0.coords t0) _ _ _ _ _ _ _ _ _ _ _ _ _ _ _ _ _ _ _ _ _ _ _ _ _ _ _ _ _ _ _ _ _ _ _ _ _ _ _ _ _ _ _ _ _ _ _ _ _ _ _ _ _ _ ((hcond0_0 t0).mpr (by omega)) ((hcond0_1 t0).mpr (by omega)) (fun h => absurd ((hcond0_2 t0).mp h) (by omega)) (fun h => absurd ((hcond0_3 t0).mp h) (by omega)) c (iblk m c 0 t0) (iblk m c 1 t0) (iblk m c 2 t0) (iblk m c 3 t0) (iblk m c 12 t0) (iblk m c 13 t0) Set.univ _
  isplitl [H0]; · iexact H0
  isplitl [H1]; · iexact H1
  isplitl [H2]; · iexact H2
  isplitl [H3]; · iexact H3
  isplitl [H12]; · iexact H12
  isplitl [H13]; · iexact H13
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [H14]; · iexists _; iexact H14
  iintro ⟨H0, H1, H2, H3, H12, H13, S0, S1, S2, S3, S4, S5, S6, H14⟩
  isplitl [S0 S1 S2 S3 S4 S5 S6 Hg]
  · isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  isplitl [H18]; · iexists _; iexact H18
  iexists _; iexact H19

set_option maxHeartbeats 1000000 in
/-- The body at a later history point. -/
theorem sound_hist (c : Dev nD) (t : Fin cfg0.N) (hz : t.val ≠ 0) (hh : t.val < 10) :
    bodyPre m c t ⊢ wp frame (wpE (defs₀ (F := F)) Variants.none c none) Set.univ (bodyAt0 t) (fun _ => bodyPost m c t) := by
  have ht := pt_lt t
  unfold bodyPre bodyPost bodyAt0
  simp only [before_0, before_1, before_2, before_3, before_4, before_5, before_6, before_7, before_8, before_9, before_10, before_11, before_12, before_13]
  rw [show (dats m 0 c).owesAt () t.succ = (dats m 0 c).owesAt () t.castSucc from rfl]
  rw [phi_pos m c t.succ (by rw [Fin.val_succ]; omega)]
  rw [leaves_live m c 0 t (live_in 0 (by decide) _), after_0, leaves_live m c 1 t (live_in 1 (by decide) _), after_1, leaves_live m c 2 t (live_in 2 (by decide) _), after_2, leaves_live m c 3 t (live_in 3 (by decide) _), after_3, leaves_live m c 4 t (live_in 4 (by decide) _), after_4, leaves_live m c 5 t (live_in 5 (by decide) _), after_5, leaves_live m c 6 t (live_in 6 (by decide) _), after_6, leaves_live m c 7 t (live_in 7 (by decide) _), after_7, leaves_live m c 8 t (live_in 8 (by decide) _), after_8, leaves_live m c 9 t (live_in 9 (by decide) _), after_9, leaves_live m c 10 t (live_in 10 (by decide) _), after_10, leaves_live m c 11 t (live_in 11 (by decide) _), after_11, leaves_live m c 12 t (live_in 12 (by decide) _), after_12, leaves_live m c 13 t (live_in 13 (by decide) _), after_13]
  rw [leaves_live m c 14 t ((idle_hist t).trans (decide_eq_false (by omega))), after_14]
  rw [Dat.leavesExact_idle (dats m 0 c) 15 t ((idle_cand t).trans (decide_eq_true (by omega))) ((flush_cand t).trans (decide_eq_false (by omega)))]
  rw [Dat.leavesExact_idle (dats m 0 c) 16 t ((idle_16 t).trans (decide_eq_true (by omega))) ((flush_16 t).trans (decide_eq_false (by omega)))]
  rw [Dat.leavesExact_idle (dats m 0 c) 17 t ((idle_17 t).trans (decide_eq_true (by omega))) ((flush_17 t).trans (decide_eq_false (by omega)))]
  rw [Dat.leavesExact_idle (dats m 0 c) 18 t ((idle_18 t).trans (decide_eq_true (by omega))) ((flush_18 t).trans (decide_eq_false (by omega)))]
  rw [Dat.leavesExact_idle (dats m 0 c) 19 t ((idle_19 t).trans (decide_eq_true (by omega))) ((flush_19 t).trans (decide_eq_false (by omega)))]
  rw [phi_pos m c t.castSucc (by rw [Fin.val_castSucc]; omega)]
  rw [show histAt m c t = histOut (wPostDiag (iblk m c 13 t0)) (wAuthDiag (iblk m c 13 t0)) (wActDiag (iblk m c 13 t0)) (wSurfDiag (iblk m c 13 t0)) (iblk m c 0 t) (iblk m c 1 t) (iblk m c 2 t) (iblk m c 3 t) from by unfold histAt; rw [tH_lt t (by omega)]]
  unfold weights
  iintro ⟨⟨⟨S0, S1, S2, S3, S4, S5, S6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply case_hist (grid0.coords t) _ _ _ _ _ _ _ _ _ _ _ _ _ _ _ _ _ _ _ _ _ _ _ _ _ _ _ _ _ _ _ _ _ _ _ _ _ _ _ _ _ _ _ _ _ _ _ _ _ _ _ _ _ _ (fun h => absurd ((hcond0_0 t).mp h) (by omega)) ((hcond0_1 t).mpr (by omega)) (fun h => absurd ((hcond0_2 t).mp h) (by omega)) (fun h => absurd ((hcond0_3 t).mp h) (by omega)) c (iblk m c 0 t) (iblk m c 1 t) (iblk m c 2 t) (iblk m c 3 t) (wPostDiag (iblk m c 13 t0)) (wAuthDiag (iblk m c 13 t0)) (wActDiag (iblk m c 13 t0)) (wSurfDiag (iblk m c 13 t0)) Set.univ _
  isplitl [H0]; · iexact H0
  isplitl [H1]; · iexact H1
  isplitl [H2]; · iexact H2
  isplitl [H3]; · iexact H3
  isplitl [S0]; · iexact S0
  isplitl [S1]; · iexact S1
  isplitl [S2]; · iexact S2
  isplitl [S3]; · iexact S3
  isplitl [H14]; · iexists _; iexact H14
  iintro ⟨H0, H1, H2, H3, S0, S1, S2, S3, H14⟩
  isplitl [S0 S1 S2 S3 S4 S5 S6 Hg]
  · isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  isplitl [H18]; · iexists _; iexact H18
  iexists _; iexact H19

set_option maxHeartbeats 1000000 in
/-- The body at a candidate point but the last. -/
theorem sound_cand (c : Dev nD) (t : Fin cfg0.N) (hh : 10 ≤ t.val) (hl : t.val ≠ 13) :
    bodyPre m c t ⊢ wp frame (wpE (defs₀ (F := F)) Variants.none c none) Set.univ (bodyAt0 t) (fun _ => bodyPost m c t) := by
  have ht := pt_lt t
  unfold bodyPre bodyPost bodyAt0
  simp only [before_0, before_1, before_2, before_3, before_4, before_5, before_6, before_7, before_8, before_9, before_10, before_11, before_12, before_13]
  rw [show (dats m 0 c).owesAt () t.succ = (dats m 0 c).owesAt () t.castSucc from rfl]
  rw [phi_pos m c t.succ (by rw [Fin.val_succ]; omega)]
  rw [leaves_live m c 0 t (live_in 0 (by decide) _), after_0, leaves_live m c 1 t (live_in 1 (by decide) _), after_1, leaves_live m c 2 t (live_in 2 (by decide) _), after_2, leaves_live m c 3 t (live_in 3 (by decide) _), after_3, leaves_live m c 4 t (live_in 4 (by decide) _), after_4, leaves_live m c 5 t (live_in 5 (by decide) _), after_5, leaves_live m c 6 t (live_in 6 (by decide) _), after_6, leaves_live m c 7 t (live_in 7 (by decide) _), after_7, leaves_live m c 8 t (live_in 8 (by decide) _), after_8, leaves_live m c 9 t (live_in 9 (by decide) _), after_9, leaves_live m c 10 t (live_in 10 (by decide) _), after_10, leaves_live m c 11 t (live_in 11 (by decide) _), after_11, leaves_live m c 12 t (live_in 12 (by decide) _), after_12, leaves_live m c 13 t (live_in 13 (by decide) _), after_13]
  rw [Dat.leavesExact_idle (dats m 0 c) 14 t ((idle_hist t).trans (decide_eq_true (by omega))) ((flush_hist t).trans (decide_eq_false (by omega)))]
  rw [leaves_live m c 15 t ((idle_cand t).trans (decide_eq_false (by omega))), after_15]
  rw [Dat.leavesExact_idle (dats m 0 c) 16 t ((idle_16 t).trans (decide_eq_true (by omega))) ((flush_16 t).trans (decide_eq_false (by omega)))]
  rw [Dat.leavesExact_idle (dats m 0 c) 17 t ((idle_17 t).trans (decide_eq_true (by omega))) ((flush_17 t).trans (decide_eq_false (by omega)))]
  rw [Dat.leavesExact_idle (dats m 0 c) 18 t ((idle_18 t).trans (decide_eq_true (by omega))) ((flush_18 t).trans (decide_eq_false (by omega)))]
  rw [Dat.leavesExact_idle (dats m 0 c) 19 t ((idle_19 t).trans (decide_eq_true (by omega))) ((flush_19 t).trans (decide_eq_false (by omega)))]
  rw [phi_pos m c t.castSucc (by rw [Fin.val_castSucc]; omega)]
  unfold weights
  iintro ⟨⟨⟨S0, S1, S2, S3, S4, S5, S6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply case_cand (grid0.coords t) _ _ _ _ _ _ _ _ _ _ _ _ _ _ _ _ _ _ _ _ _ _ _ _ _ _ _ _ _ _ _ _ _ _ _ _ _ _ _ _ _ _ _ _ _ _ _ _ _ _ _ _ _ _ (fun h => absurd ((hcond0_0 t).mp h) (by omega)) (fun h => absurd ((hcond0_1 t).mp h) (by omega)) ((hcond0_2 t).mpr (by omega)) (fun h => absurd ((hcond0_3 t).mp h) (by omega)) c (iblk m c 4 t) (iblk m c 5 t) (iblk m c 6 t) (wCandPostDiag (iblk m c 12 t0)) (wCandAuthDiag (iblk m c 12 t0)) (wCandSurfDiag (iblk m c 12 t0)) Set.univ _
  isplitl [H4]; · iexact H4
  isplitl [H5]; · iexact H5
  isplitl [H6]; · iexact H6
  isplitl [S4]; · iexact S4
  isplitl [S5]; · iexact S5
  isplitl [S6]; · iexact S6
  isplitl [H15]; · iexists _; iexact H15
  iintro ⟨H4, H5, H6, S4, S5, S6, H15⟩
  isplitl [S0 S1 S2 S3 S4 S5 S6 Hg]
  · isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexact H15
  isplitl [H16]; · iexists _; iexact H16
  isplitl [H17]; · iexists _; iexact H17
  isplitl [H18]; · iexists _; iexact H18
  iexists _; iexact H19

set_option maxHeartbeats 1000000 in
/-- The body at the last point. -/
theorem sound_last (c : Dev nD) (t : Fin cfg0.N) (hl : t.val = 13) :
    bodyPre m c t ⊢ wp frame (wpE (defs₀ (F := F)) Variants.none c none) Set.univ (bodyAt0 t) (fun _ => bodyPost m c t) := by
  have ht := pt_lt t
  unfold bodyPre bodyPost bodyAt0
  simp only [before_0, before_1, before_2, before_3, before_4, before_5, before_6, before_7, before_8, before_9, before_10, before_11, before_12, before_13]
  rw [show (dats m 0 c).owesAt () t.succ = (dats m 0 c).owesAt () t.castSucc from rfl]
  rw [phi_pos m c t.succ (by rw [Fin.val_succ]; omega)]
  rw [leaves_live m c 0 t (live_in 0 (by decide) _), after_0, leaves_live m c 1 t (live_in 1 (by decide) _), after_1, leaves_live m c 2 t (live_in 2 (by decide) _), after_2, leaves_live m c 3 t (live_in 3 (by decide) _), after_3, leaves_live m c 4 t (live_in 4 (by decide) _), after_4, leaves_live m c 5 t (live_in 5 (by decide) _), after_5, leaves_live m c 6 t (live_in 6 (by decide) _), after_6, leaves_live m c 7 t (live_in 7 (by decide) _), after_7, leaves_live m c 8 t (live_in 8 (by decide) _), after_8, leaves_live m c 9 t (live_in 9 (by decide) _), after_9, leaves_live m c 10 t (live_in 10 (by decide) _), after_10, leaves_live m c 11 t (live_in 11 (by decide) _), after_11, leaves_live m c 12 t (live_in 12 (by decide) _), after_12, leaves_live m c 13 t (live_in 13 (by decide) _), after_13]
  rw [leaves_flush m c 14 t ((flush_hist t).trans (decide_eq_true (by omega))), after_14]
  rw [leaves_live m c 15 t ((idle_cand t).trans (decide_eq_false (by omega))), after_15]
  rw [leaves_live m c 16 t ((idle_16 t).trans (decide_eq_false (by omega))), after_16]
  rw [leaves_live m c 17 t ((idle_17 t).trans (decide_eq_false (by omega))), after_17]
  rw [leaves_live m c 18 t ((idle_18 t).trans (decide_eq_false (by omega))), after_18]
  rw [leaves_live m c 19 t ((idle_19 t).trans (decide_eq_false (by omega))), after_19]
  simp only [before_hist m c t (by omega)]
  rw [phi_pos m c t.castSucc (by rw [Fin.val_castSucc]; omega)]
  unfold weights
  iintro ⟨⟨⟨S0, S1, S2, S3, S4, S5, S6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply case_last (grid0.coords t) _ _ _ _ _ _ _ _ _ _ _ _ _ _ _ _ _ _ _ _ _ _ _ _ _ _ _ _ _ _ _ _ _ _ _ _ _ _ _ _ _ _ _ _ _ _ _ _ _ _ _ _ _ _ (fun h => absurd ((hcond0_0 t).mp h) (by omega)) (fun h => absurd ((hcond0_1 t).mp h) (by omega)) ((hcond0_2 t).mpr (by omega)) ((hcond0_3 t).mpr (by omega)) c (iblk m c 4 t) (iblk m c 5 t) (iblk m c 6 t) (wCandPostDiag (iblk m c 12 t0)) (wCandAuthDiag (iblk m c 12 t0)) (wCandSurfDiag (iblk m c 12 t0)) (iblk m c 7 t) (iblk m c 8 t) (iblk m c 9 t) (iblk m c 10 t) (iblk m c 11 t) Set.univ _
  isplitl [H4]; · iexact H4
  isplitl [H5]; · iexact H5
  isplitl [H6]; · iexact H6
  isplitl [S4]; · iexact S4
  isplitl [S5]; · iexact S5
  isplitl [S6]; · iexact S6
  isplitl [H7]; · iexact H7
  isplitl [H8]; · iexact H8
  isplitl [H9]; · iexact H9
  isplitl [H10]; · iexact H10
  isplitl [H11]; · iexact H11
  isplitl [H15]; · iexists _; iexact H15
  isplitl [H16]; · iexists _; iexact H16
  isplitl [H17]; · iexists _; iexact H17
  isplitl [H18]; · iexists _; iexact H18
  isplitl [H19]; · iexists _; iexact H19
  iintro ⟨H4, H5, H6, S4, S5, S6, H15, H7, H8, H9, H10, H11, H16, H17, H18, H19⟩
  isplitl [S0 S1 S2 S3 S4 S5 S6 Hg]
  · isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

/-- The body at any point. -/
theorem sound_body (c : Dev nD) (t : Fin cfg0.N) :
    bodyPre m c t ⊢ wp frame (wpE (defs₀ (F := F)) Variants.none c none) Set.univ (bodyAt0 t) (fun _ => bodyPost m c t) := by
  by_cases hh : t.val < 10
  · by_cases hz : t.val = 0
    · exact sound_first m c t hz
    · exact sound_hist m c t hz hh
  · by_cases hl : t.val = 13
    · exact sound_last m c t hl
    · exact sound_cand m c t (by omega) hl

/-- The body table's row at point `t` is the body. -/
theorem defs_row (t : Fin cfg0.N) :
    defs₀ (F := F) .tc cfg0.body (cfg0.bodyArgs t (cfg0.slots t)) = bodyAt0 t := by
  unfold defs₀; rw [Defs.onTc_tc]

/-- The body obligation of the launch, at every point. -/
theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

end Cert.KernelIdeal.Kern

end
-- ==== Proof.Kern.Run.lean ====
module

public import proofs.«01_k».proof.Proof.Kern.Body

/-! The run of the whole program: every array ends at what the proof data says, and the arguments end unchanged. -/

@[expose] public section

set_option maxRecDepth 16384

noncomputable section

namespace Cert.KernelIdeal.Kern

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ (UR sig nD τ) ℕ

/-- The launch hands the region the invariant of the first point. -/
theorem hin (c : Dev nD) : Pipeline.ΦA spec0 c ⊢ (dats m 0 c).Φ 0 := by
  rw [phi_zero m c 0 rfl]

/-- After the last point the scratch goes back, its contents forgotten. -/
theorem hout (c : Dev nD) : (dats m 0 c).Φ (Fin.last cfg0.N) ⊢ Pipeline.ΦA spec0 c := by
  rw [phi_pos m c _ (by rw [Fin.val_last]; have : cfg0.N = 14 := N_0; omega), PhiA0_eq]
  unfold weights
  iintro ⟨⟨HS0, HS1, HS2, HS3, HS4, HS5, HS6⟩, Hg⟩
  isplitl [HS0 HS1 HS2 HS3 HS4 HS5 HS6]
  · isplitl [HS0]
    · iexists _; iexact HS0
    isplitl [HS1]
    · iexists _; iexact HS1
    isplitl [HS2]
    · iexists _; iexact HS2
    isplitl [HS3]
    · iexists _; iexact HS3
    isplitl [HS4]
    · iexists _; iexact HS4
    isplitl [HS5]
    · iexists _; iexact HS5
    iexists _; iexact HS6
  iexact Hg

set_option backward.isDefEq.respectTransparency.types false in
set_option maxHeartbeats 800000 in
/-- Every execution ends with every array of the pipeline at what the proof data gives, every other buffer as the host
    lines leave it, and every semaphore at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The same without the semaphores. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

/-- The frame of the program: arguments unchanged, semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ) ((θ_run defs _ _).mono (fun _ h => h.2) (run_main_quiescent m ρ))

end Cert.KernelIdeal.Kern

end
-- ==== Proof.Kern.Inputs.lean ====
module

public import proofs.«01_k».proof.Proof.Gen.KernelIdeal.Frame
public import Idealize.ShloMosaic.Lib.Claim
public import Idealize.ShloMosaic.Lib.Pointwise

/-! What each array the region is entered with holds, in terms of the arguments. -/

@[expose] public section

set_option maxRecDepth 16384

noncomputable section

namespace Cert.KernelIdeal.Kern

open Idealize.ShloMosaic Idealize.ShloMosaic.TcCoe Idealize.ShloMosaic.Tactic
open Cert.KernelIdeal.Gen
open Idealize.SL.Sem

variable {F : FTy → Type} [FloatOps F]
variable (m : (ℓ : Loc nD τ sig) → Buf (Elt F) ℓ)

/-- What `main_v1` holds when the region starts. -/
theorem val_v1 (c : Dev nD) : V m c main_v1 = shapeCast S12800x1024 (transpose S200x2x32x1024 [1, 2, 3, 0] (m ((c.tc : Thread nD τ).loc main_arg3)) transposes_S1024x200x2x32_S200x2x32x1024_1_2_3_0) shapeCasts_S200x2x32x1024_S12800x1024 := by
  show StableHlo.after hostOps0 _ _ = _
  unfold hostOps0
  after_results <;> rfl

/-- Row `64 s + k` of `main_v1` is feature `k` of position `s` of the argument it is laid out from. -/
theorem in_v1 (c : Dev nD) (s : Fin 200) (k : Fin 64) (b : Fin 1024) :
    V m c main_v1 (ix2 ⟨64 * s.val + k.val, by omega⟩ b)
      = m ((c.tc : Thread nD τ).loc main_arg3) (ix4 b s ⟨k.val / 32, by omega⟩ ⟨k.val % 32, by omega⟩) := by
  rw [val_v1]
  pointwise
  have hk := k.isLt
  exact congrArg _ (congrArg₂ (ix4 b s) (Fin.ext (by show (64 * s.val + k.val) / 32 % 2 = k.val / 32; omega))
    (Fin.ext (by show (64 * s.val + k.val) % 32 = k.val % 32; omega)))

/-- What `main_v3` holds when the region starts. -/
theorem val_v3 (c : Dev nD) : V m c main_v3 = shapeCast S12800x1024 (transpose S200x2x32x1024 [1, 2, 3, 0] (m ((c.tc : Thread nD τ).loc main_arg4)) transposes_S1024x200x2x32_S200x2x32x1024_1_2_3_0) shapeCasts_S200x2x32x1024_S12800x1024 := by
  show StableHlo.after hostOps0 _ _ = _
  unfold hostOps0
  after_results <;> rfl

/-- Row `64 s + k` of `main_v3` is feature `k` of position `s` of the argument it is laid out from. -/
theorem in_v3 (c : Dev nD) (s : Fin 200) (k : Fin 64) (b : Fin 1024) :
    V m c main_v3 (ix2 ⟨64 * s.val + k.val, by omega⟩ b)
      = m ((c.tc : Thread nD τ).loc main_arg4) (ix4 b s ⟨k.val / 32, by omega⟩ ⟨k.val % 32, by omega⟩) := by
  rw [val_v3]
  pointwise
  have hk := k.isLt
  exact congrArg _ (congrArg₂ (ix4 b s) (Fin.ext (by show (64 * s.val + k.val) / 32 % 2 = k.val / 32; omega))
    (Fin.ext (by show (64 * s.val + k.val) % 32 = k.val % 32; omega)))

/-- What `main_v9` holds when the region starts. -/
theorem val_v9 (c : Dev nD) : V m c main_v9 = shapeCast S2048x1024 (transpose S32x2x32x1024 [1, 2, 3, 0] (m ((c.tc : Thread nD τ).loc main_arg8)) transposes_S1024x32x2x32_S32x2x32x1024_1_2_3_0) shapeCasts_S32x2x32x1024_S2048x1024 := by
  show StableHlo.after hostOps0 _ _ = _
  unfold hostOps0
  after_results <;> rfl

/-- Row `64 s + k` of `main_v9` is feature `k` of position `s` of the argument it is laid out from. -/
theorem in_v9 (c : Dev nD) (s : Fin 32) (k : Fin 64) (b : Fin 1024) :
    V m c main_v9 (ix2 ⟨64 * s.val + k.val, by omega⟩ b)
      = m ((c.tc : Thread nD τ).loc main_arg8) (ix4 b s ⟨k.val / 32, by omega⟩ ⟨k.val % 32, by omega⟩) := by
  rw [val_v9]
  pointwise
  have hk := k.isLt
  exact congrArg _ (congrArg₂ (ix4 b s) (Fin.ext (by show (64 * s.val + k.val) / 32 % 2 = k.val / 32; omega))
    (Fin.ext (by show (64 * s.val + k.val) % 32 = k.val % 32; omega)))

/-- What `main_v11` holds when the region starts. -/
theorem val_v11 (c : Dev nD) : V m c main_v11 = shapeCast S2048x1024 (transpose S32x2x32x1024 [1, 2, 3, 0] (m ((c.tc : Thread nD τ).loc main_arg9)) transposes_S1024x32x2x32_S32x2x32x1024_1_2_3_0) shapeCasts_S32x2x32x1024_S2048x1024 := by
  show StableHlo.after hostOps0 _ _ = _
  unfold hostOps0
  after_results <;> rfl

/-- Row `64 s + k` of `main_v11` is feature `k` of position `s` of the argument it is laid out from. -/
theorem in_v11 (c : Dev nD) (s : Fin 32) (k : Fin 64) (b : Fin 1024) :
    V m c main_v11 (ix2 ⟨64 * s.val + k.val, by omega⟩ b)
      = m ((c.tc : Thread nD τ).loc main_arg9) (ix4 b s ⟨k.val / 32, by omega⟩ ⟨k.val % 32, by omega⟩) := by
  rw [val_v11]
  pointwise
  have hk := k.isLt
  exact congrArg _ (congrArg₂ (ix4 b s) (Fin.ext (by show (64 * s.val + k.val) / 32 % 2 = k.val / 32; omega))
    (Fin.ext (by show (64 * s.val + k.val) % 32 = k.val % 32; omega)))

/-- What `main_v5` holds when the region starts. -/
theorem val_v5 (c : Dev nD) : V m c main_v5 = shapeCast S6400x1024 (transpose S200x32x1024 [1, 2, 0] (m ((c.tc : Thread nD τ).loc main_arg6)) transposes_S1024x200x32_S200x32x1024_1_2_0) shapeCasts_S200x32x1024_S6400x1024 := by
  show StableHlo.after hostOps0 _ _ = _
  unfold hostOps0
  after_results <;> rfl

/-- Row `32 s + k` of `main_v5` is feature `k` of position `s` of the argument it is laid out from. -/
theorem in_v5 (c : Dev nD) (s : Fin 200) (k : Fin 32) (b : Fin 1024) :
    V m c main_v5 (ix2 ⟨32 * s.val + k.val, by omega⟩ b) = m ((c.tc : Thread nD τ).loc main_arg6) (ix3 b s k) := by
  rw [val_v5]
  pointwise

/-- What `main_v7` holds when the region starts. -/
theorem val_v7 (c : Dev nD) : V m c main_v7 = shapeCast S6400x1024 (transpose S200x32x1024 [1, 2, 0] (m ((c.tc : Thread nD τ).loc main_arg5)) transposes_S1024x200x32_S200x32x1024_1_2_0) shapeCasts_S200x32x1024_S6400x1024 := by
  show StableHlo.after hostOps0 _ _ = _
  unfold hostOps0
  after_results <;> rfl

/-- Row `32 s + k` of `main_v7` is feature `k` of position `s` of the argument it is laid out from. -/
theorem in_v7 (c : Dev nD) (s : Fin 200) (k : Fin 32) (b : Fin 1024) :
    V m c main_v7 (ix2 ⟨32 * s.val + k.val, by omega⟩ b) = m ((c.tc : Thread nD τ).loc main_arg5) (ix3 b s k) := by
  rw [val_v7]
  pointwise

/-- What `main_v13` holds when the region starts. -/
theorem val_v13 (c : Dev nD) : V m c main_v13 = shapeCast S1024x1024 (transpose S32x32x1024 [1, 2, 0] (m ((c.tc : Thread nD τ).loc main_arg10)) transposes_S1024x32x32_S32x32x1024_1_2_0) shapeCasts_S32x32x1024_S1024x1024 := by
  show StableHlo.after hostOps0 _ _ = _
  unfold hostOps0
  after_results <;> rfl

/-- Row `32 s + k` of `main_v13` is feature `k` of position `s` of the argument it is laid out from. -/
theorem in_v13 (c : Dev nD) (s : Fin 32) (k : Fin 32) (b : Fin 1024) :
    V m c main_v13 (ix2 ⟨32 * s.val + k.val, by omega⟩ b) = m ((c.tc : Thread nD τ).loc main_arg10) (ix3 b s k) := by
  rw [val_v13]
  pointwise

/-- What `main_v15` holds when the region starts. -/
theorem val_v15 (c : Dev nD) : V m c main_v15 = shapeCast S128x1024 (transpose S4x32x1024 [1, 2, 0] (m ((c.tc : Thread nD τ).loc main_arg1)) transposes_S1024x4x32_S4x32x1024_1_2_0) shapeCasts_S4x32x1024_S128x1024 := by
  show StableHlo.after hostOps0 _ _ = _
  unfold hostOps0
  after_results <;> rfl

/-- Row `k` of `main_v15` is feature `k` of the user. -/
theorem in_v15 (c : Dev nD) (k : Fin 128) (b : Fin 1024) :
    V m c main_v15 (ix2 k b) = m ((c.tc : Thread nD τ).loc main_arg1) (ix3 b ⟨k.val / 32, by omega⟩ ⟨k.val % 32, by omega⟩) := by
  rw [val_v15]
  pointwise

/-- What `main_v19` holds when the region starts. -/
theorem val_v19 (c : Dev nD) : V m c main_v19 = transpose S32x128 [1, 0] (m ((c.tc : Thread nD τ).loc main_arg11)) transposes_S128x32_S32x128_1_0 := by
  show StableHlo.after hostOps0 _ _ = _
  unfold hostOps0
  after_results <;> rfl

/-- `main_v19` is a projection matrix, transposed. -/
theorem in_v19 (c : Dev nD) (d : Fin 32) (k : Fin 128) : V m c main_v19 (ix2 d k) = m ((c.tc : Thread nD τ).loc main_arg11) (ix2 k d) := by
  rw [val_v19]
  pointwise

/-- What `main_v20` holds when the region starts. -/
theorem val_v20 (c : Dev nD) : V m c main_v20 = transpose S32x160 [1, 0] (m ((c.tc : Thread nD τ).loc main_arg12)) transposes_S160x32_S32x160_1_0 := by
  show StableHlo.after hostOps0 _ _ = _
  unfold hostOps0
  after_results <;> rfl

/-- `main_v20` is a projection matrix, transposed. -/
theorem in_v20 (c : Dev nD) (d : Fin 32) (k : Fin 160) : V m c main_v20 (ix2 d k) = m ((c.tc : Thread nD τ).loc main_arg12) (ix2 k d) := by
  rw [val_v20]
  pointwise

/-- What `main_v21` holds when the region starts. -/
theorem val_v21 (c : Dev nD) : V m c main_v21 = transpose S32x192 [1, 0] (m ((c.tc : Thread nD τ).loc main_arg13)) transposes_S192x32_S32x192_1_0 := by
  show StableHlo.after hostOps0 _ _ = _
  unfold hostOps0
  after_results <;> rfl

/-- `main_v21` is a projection matrix, transposed. -/
theorem in_v21 (c : Dev nD) (d : Fin 32) (k : Fin 192) : V m c main_v21 (ix2 d k) = m ((c.tc : Thread nD τ).loc main_arg13) (ix2 k d) := by
  rw [val_v21]
  pointwise

/-- What `main_v16` holds when the region starts. -/
theorem val_v16 (c : Dev nD) : V m c main_v16 = transpose S4x1024 [1, 0] (m ((c.tc : Thread nD τ).loc main_arg0)) transposes_S1024x4_S4x1024_1_0 := by
  show StableHlo.after hostOps0 _ _ = _
  unfold hostOps0
  after_results <;> rfl

/-- `main_v16` is the user hashes, transposed. -/
theorem in_v16 (c : Dev nD) (h : Fin 4) (b : Fin 1024) : V m c main_v16 (ix2 h b) = m ((c.tc : Thread nD τ).loc main_arg0) (ix2 b h) := by
  rw [val_v16]
  pointwise

/-- What `main_v17` holds when the region starts. -/
theorem val_v17 (c : Dev nD) : V m c main_v17 = transpose S200x2x1024 [1, 2, 0] (m ((c.tc : Thread nD τ).loc main_arg2)) transposes_S1024x200x2_S200x2x1024_1_2_0 := by
  show StableHlo.after hostOps0 _ _ = _
  unfold hostOps0
  after_results <;> rfl

/-- `main_v17` is the post hashes, with the batch last. -/
theorem in_v17 (c : Dev nD) (s : Fin 200) (h : Fin 2) (b : Fin 1024) : V m c main_v17 (ix3 s h b) = m ((c.tc : Thread nD τ).loc main_arg2) (ix3 b s h) := by
  rw [val_v17]
  pointwise

/-- What `main_v18` holds when the region starts. -/
theorem val_v18 (c : Dev nD) : V m c main_v18 = transpose S32x2x1024 [1, 2, 0] (m ((c.tc : Thread nD τ).loc main_arg7)) transposes_S1024x32x2_S32x2x1024_1_2_0 := by
  show StableHlo.after hostOps0 _ _ = _
  unfold hostOps0
  after_results <;> rfl

/-- `main_v18` is the post hashes, with the batch last. -/
theorem in_v18 (c : Dev nD) (s : Fin 32) (h : Fin 2) (b : Fin 1024) : V m c main_v18 (ix3 s h b) = m ((c.tc : Thread nD τ).loc main_arg7) (ix3 b s h) := by
  rw [val_v18]
  pointwise

end Cert.KernelIdeal.Kern

end
-- ==== Proof.Kern.Results.lean ====
module

public import proofs.«01_k».proof.Proof.Kern.Arrays
public import proofs.«01_k».proof.Proof.Kern.Run
public import proofs.«01_k».proof.Proof.Kern.Inputs

/-! The kernel's results: what each holds after the run, entry by entry, in terms of the arguments. -/

@[expose] public section

set_option maxRecDepth 16384

noncomputable section

namespace Cert.KernelIdeal.Kern

open Idealize.ShloMosaic Idealize.ShloMosaic.TcCoe Idealize.ShloMosaic.Tactic
open Cert.KernelIdeal.Gen
open Idealize.SL.Sem

variable (m : (ℓ : Loc nD τ sig) → Buf (Elt Ideal) ℓ)

/-- What the buffers hold when the operations after the region start. -/
abbrev exitV (c : Dev nD) : Valuation τ sig (Elt Ideal) :=
  Pipeline.withArrays spec0 c (V0 m c) fun w => (dats m 0 c).arrAt w cfg0.N

/-- An output array when the operations after the region start. -/
theorem exit_arr (c : Dev nD) (w : Fin 20) :
    exitV m c (Proc.devRef .tc (Pipeline.arrRef spec0 w)) = (dats m 0 c).arrAt w cfg0.N :=
  Pipeline.withArrays_arr spec0 (by decide) c _ _ w

/-- The candidate result is output array 15, laid out with the batch first. -/
theorem res_v33 (c : Dev nD) :
    Pipeline.afterTail₀ cfgs (dats m) 0 (V0 m) [hostOps1] c main_v33
      = transpose S1024x32x32 [2, 0, 1] (shapeCast S32x32x1024 ((dats m 0 c).arrAt 15 cfg0.N) shapeCasts_S1024x1024_S32x32x1024) transposes_S32x32x1024_S1024x32x32_2_0_1 := by
  rw [← exit_arr m c 15]
  show StableHlo.after hostOps1 (exitV m c) _ = _
  generalize exitV m c = E
  unfold hostOps1
  after_results <;> rfl

/-- The history result is output array 14, laid out with the batch first. -/
theorem res_v36 (c : Dev nD) :
    Pipeline.afterTail₀ cfgs (dats m) 0 (V0 m) [hostOps1] c main_v36
      = transpose S1024x200x32 [2, 0, 1] (shapeCast S200x32x1024 ((dats m 0 c).arrAt 14 cfg0.N) shapeCasts_S6400x1024_S200x32x1024) transposes_S200x32x1024_S1024x200x32_2_0_1 := by
  rw [← exit_arr m c 14]
  show StableHlo.after hostOps1 (exitV m c) _ = _
  generalize exitV m c = E
  unfold hostOps1
  after_results <;> rfl

/-- The user result is output array 16, laid out with the batch first. -/
theorem res_v39 (c : Dev nD) :
    Pipeline.afterTail₀ cfgs (dats m) 0 (V0 m) [hostOps1] c main_v39
      = shapeCast S1024x1x32 (transpose S1024x32 [1, 0] ((dats m 0 c).arrAt 16 cfg0.N) transposes_S32x1024_S1024x32_1_0) shapeCasts_S1024x32_S1024x1x32 := by
  rw [← exit_arr m c 16]
  show StableHlo.after hostOps1 (exitV m c) _ = _
  generalize exitV m c = E
  unfold hostOps1
  after_results <;> rfl

/-- The user mask is where output array 17 is not zero, laid out with the batch first. -/
theorem res_v40 (c : Dev nD) :
    Pipeline.afterTail₀ cfgs (dats m) 0 (V0 m) [hostOps1] c main_v40
      = transpose S1024x1 [1, 0] (cmpi .ne ((dats m 0 c).arrAt 17 cfg0.N) (broadcastInDim S1x1024 ![] bcast_S_S1x1024 (constantI S_ 32 0#32))) transposes_S1x1024_S1024x1_1_0 := by
  rw [← exit_arr m c 17]
  show StableHlo.after hostOps1 (exitV m c) _ = _
  generalize exitV m c = E
  unfold hostOps1
  after_results <;> rfl

/-- The history mask is where output array 18 is not zero, laid out with the batch first. -/
theorem res_v37 (c : Dev nD) :
    Pipeline.afterTail₀ cfgs (dats m) 0 (V0 m) [hostOps1] c main_v37
      = transpose S1024x200 [1, 0] (cmpi .ne ((dats m 0 c).arrAt 18 cfg0.N) (broadcastInDim S200x1024 ![] bcast_S_S200x1024 (constantI S_ 32 0#32))) transposes_S200x1024_S1024x200_1_0 := by
  rw [← exit_arr m c 18]
  show StableHlo.after hostOps1 (exitV m c) _ = _
  generalize exitV m c = E
  unfold hostOps1
  after_results <;> rfl

/-- The candidate mask is where output array 19 is not zero, laid out with the batch first. -/
theorem res_v34 (c : Dev nD) :
    Pipeline.afterTail₀ cfgs (dats m) 0 (V0 m) [hostOps1] c main_v34
      = transpose S1024x32 [1, 0] (cmpi .ne ((dats m 0 c).arrAt 19 cfg0.N) (broadcastInDim S32x1024 ![] bcast_S_S32x1024 (constantI S_ 32 0#32))) transposes_S32x1024_S1024x32_1_0 := by
  rw [← exit_arr m c 19]
  show StableHlo.after hostOps1 (exitV m c) _ = _
  generalize exitV m c = E
  unfold hostOps1
  after_results <;> rfl

end Cert.KernelIdeal.Kern

end
-- ==== Proof.Kern.Reference.lean ====
module

public import proofs.«01_k».proof.Proof.Gen.ReferenceIdeal.Run
public import Idealize.ShloMosaic.Lib.Pointwise
public import Idealize.ShloMosaic.Lib.Pointwise.Sums

/-! The reference's results, entry by entry. -/

@[expose] public section

set_option maxRecDepth 16384

noncomputable section

namespace Cert.ReferenceIdeal.Plain

open Idealize.ShloMosaic Idealize.ShloMosaic.TcCoe Idealize.ShloMosaic.Tactic
open Cert.ReferenceIdeal Cert.ReferenceIdeal.Gen

/-- A sum over 160 places is cut at 64 and at 128. -/
theorem sum_160 {M : Type} [AddCommMonoid M] (f : Fin 160 → M) :
    ∑ k : Fin 160, f k = (∑ k : Fin 64, f ⟨0 + k.val, by omega⟩) + (∑ k : Fin 64, f ⟨64 + k.val, by omega⟩)
      + (∑ k : Fin 32, f ⟨128 + k.val, by omega⟩) := by
  rw [Fin.sum_univ_two_halves 128 32 rfl, Fin.sum_univ_two_halves 64 64 rfl]
  simp only [Nat.zero_add]

/-- A sum over 192 places is cut at 64, at 128 and at 160. -/
theorem sum_192 {M : Type} [AddCommMonoid M] (f : Fin 192 → M) :
    ∑ k : Fin 192, f k = (∑ k : Fin 64, f ⟨0 + k.val, by omega⟩) + (∑ k : Fin 64, f ⟨64 + k.val, by omega⟩)
      + (∑ k : Fin 32, f ⟨128 + k.val, by omega⟩) + (∑ k : Fin 32, f ⟨160 + k.val, by omega⟩) := by
  rw [Fin.sum_univ_two_halves 160 32 rfl, Fin.sum_univ_two_halves 128 32 rfl, Fin.sum_univ_two_halves 64 64 rfl]
  simp only [Nat.zero_add]

/-- The input features of one candidate, laid end to end. -/
def candIn (p : Vec Ideal S1024x32x2x32 .f32) (a : Vec Ideal S1024x32x2x32 .f32) (s : Vec Ideal S1024x32x32 .f32) : Vec Ideal S1024x32x160 .f32 :=
  concatenate S1024x32x160 2 [⟨S1024x32x64, shapeCast _ p shapeCasts_S1024x32x2x32_S1024x32x64⟩, ⟨S1024x32x64, shapeCast _ a shapeCasts_S1024x32x2x32_S1024x32x64⟩, ⟨S1024x32x32, s⟩] concatenates_S1024x32x64_S1024x32x64_S1024x32x32_S1024x32x160_d2

/-- The features from place 0 on. -/
theorem candIn_0 (p : Vec Ideal S1024x32x2x32 .f32) (a : Vec Ideal S1024x32x2x32 .f32) (s : Vec Ideal S1024x32x32 .f32) (b : Fin 1024) (i : Fin 32) (k : Fin 64) :
    candIn p a s (ix3 b i ⟨0 + k.val, by omega⟩) = p (ix4 b i ⟨k.val / 32, by omega⟩ ⟨k.val % 32, by omega⟩) := by
  unfold candIn
  pointwise

/-- The features from place 64 on. -/
theorem candIn_64 (p : Vec Ideal S1024x32x2x32 .f32) (a : Vec Ideal S1024x32x2x32 .f32) (s : Vec Ideal S1024x32x32 .f32) (b : Fin 1024) (i : Fin 32) (k : Fin 64) :
    candIn p a s (ix3 b i ⟨64 + k.val, by omega⟩) = a (ix4 b i ⟨k.val / 32, by omega⟩ ⟨k.val % 32, by omega⟩) := by
  unfold candIn
  pointwise

/-- The features from place 128 on. -/
theorem candIn_128 (p : Vec Ideal S1024x32x2x32 .f32) (a : Vec Ideal S1024x32x2x32 .f32) (s : Vec Ideal S1024x32x32 .f32) (b : Fin 1024) (i : Fin 32) (k : Fin 32) :
    candIn p a s (ix3 b i ⟨128 + k.val, by omega⟩) = s (ix3 b i k) := by
  unfold candIn
  pointwise
  have hk := k.isLt
  repeat' split
  all_goals first
    | omega
    | (congr 2 <;> exact Fin.ext (by simp only; omega))
    | (congr 1; congr 1; exact Fin.ext (by simp only; omega))

/-- The candidate result: the features laid end to end, times the projection matrix. -/
def cand (p : Vec Ideal S1024x32x2x32 .f32) (a : Vec Ideal S1024x32x2x32 .f32) (s : Vec Ideal S1024x32x32 .f32) (w : Vec Ideal S160x32 .f32) : Vec Ideal S1024x32x32 .f32 :=
  Host.dotGeneral (F := Ideal) (φ₁ := .f32) (φ₂ := .f32) dot_S1024x32x160_S160x32_S1024x32x32_2_0_01_1_n_n none (candIn p a s) w

/-- An entry of the candidate result is one sum over the features. -/
theorem cand_sum (p : Vec Ideal S1024x32x2x32 .f32) (a : Vec Ideal S1024x32x2x32 .f32) (s : Vec Ideal S1024x32x32 .f32) (w : Vec Ideal S160x32 .f32) (b : Fin 1024) (i : Fin 32) (d : Fin 32) :
    cand p a s w (ix3 b i d) = ∑ k : Fin 160, (candIn p a s (ix3 b i k) : EReal) * w (ix2 k d) := by
  unfold cand
  generalize candIn p a s = x
  pointwise

/-- An entry of the candidate result, by kinds of feature. -/
theorem cand_apply (p : Vec Ideal S1024x32x2x32 .f32) (a : Vec Ideal S1024x32x2x32 .f32) (s : Vec Ideal S1024x32x32 .f32) (w : Vec Ideal S160x32 .f32) (b : Fin 1024) (i : Fin 32) (d : Fin 32) :
    cand p a s w (ix3 b i d) = (∑ k : Fin 64, (p (ix4 b i ⟨k.val / 32, by omega⟩ ⟨k.val % 32, by omega⟩) : EReal) * w (ix2 ⟨0 + k.val, by omega⟩ d))
      + (∑ k : Fin 64, (a (ix4 b i ⟨k.val / 32, by omega⟩ ⟨k.val % 32, by omega⟩) : EReal) * w (ix2 ⟨64 + k.val, by omega⟩ d))
      + (∑ k : Fin 32, (s (ix3 b i k) : EReal) * w (ix2 ⟨128 + k.val, by omega⟩ d)) := by
  rw [cand_sum, sum_160]
  simp only [candIn_0, candIn_64, candIn_128]

/-- The input features of one history, laid end to end. -/
def histIn (p : Vec Ideal S1024x200x2x32 .f32) (a : Vec Ideal S1024x200x2x32 .f32) (t : Vec Ideal S1024x200x32 .f32) (s : Vec Ideal S1024x200x32 .f32) : Vec Ideal S1024x200x192 .f32 :=
  concatenate S1024x200x192 2 [⟨S1024x200x64, shapeCast _ p shapeCasts_S1024x200x2x32_S1024x200x64⟩, ⟨S1024x200x64, shapeCast _ a shapeCasts_S1024x200x2x32_S1024x200x64⟩, ⟨S1024x200x32, t⟩, ⟨S1024x200x32, s⟩] concatenates_S1024x200x64_S1024x200x64_S1024x200x32_S1024x200x32_S1024x200x192_d2

/-- The features from place 0 on. -/
theorem histIn_0 (p : Vec Ideal S1024x200x2x32 .f32) (a : Vec Ideal S1024x200x2x32 .f32) (t : Vec Ideal S1024x200x32 .f32) (s : Vec Ideal S1024x200x32 .f32) (b : Fin 1024) (i : Fin 200) (k : Fin 64) :
    histIn p a t s (ix3 b i ⟨0 + k.val, by omega⟩) = p (ix4 b i ⟨k.val / 32, by omega⟩ ⟨k.val % 32, by omega⟩) := by
  unfold histIn
  pointwise

/-- The features from place 64 on. -/
theorem histIn_64 (p : Vec Ideal S1024x200x2x32 .f32) (a : Vec Ideal S1024x200x2x32 .f32) (t : Vec Ideal S1024x200x32 .f32) (s : Vec Ideal S1024x200x32 .f32) (b : Fin 1024) (i : Fin 200) (k : Fin 64) :
    histIn p a t s (ix3 b i ⟨64 + k.val, by omega⟩) = a (ix4 b i ⟨k.val / 32, by omega⟩ ⟨k.val % 32, by omega⟩) := by
  unfold histIn
  pointwise

/-- The features from place 128 on. -/
theorem histIn_128 (p : Vec Ideal S1024x200x2x32 .f32) (a : Vec Ideal S1024x200x2x32 .f32) (t : Vec Ideal S1024x200x32 .f32) (s : Vec Ideal S1024x200x32 .f32) (b : Fin 1024) (i : Fin 200) (k : Fin 32) :
    histIn p a t s (ix3 b i ⟨128 + k.val, by omega⟩) = t (ix3 b i k) := by
  unfold histIn
  pointwise
  have hk := k.isLt
  repeat' split
  all_goals first
    | omega
    | (congr 2 <;> exact Fin.ext (by simp only; omega))
    | (congr 1; congr 1; exact Fin.ext (by simp only; omega))

/-- The features from place 160 on. -/
theorem histIn_160 (p : Vec Ideal S1024x200x2x32 .f32) (a : Vec Ideal S1024x200x2x32 .f32) (t : Vec Ideal S1024x200x32 .f32) (s : Vec Ideal S1024x200x32 .f32) (b : Fin 1024) (i : Fin 200) (k : Fin 32) :
    histIn p a t s (ix3 b i ⟨160 + k.val, by omega⟩) = s (ix3 b i k) := by
  unfold histIn
  pointwise
  have hk := k.isLt
  repeat' split
  all_goals first
    | omega
    | (congr 2 <;> exact Fin.ext (by simp only; omega))
    | (congr 1; congr 1; exact Fin.ext (by simp only; omega))

/-- The history result: the features laid end to end, times the projection matrix. -/
def hist (p : Vec Ideal S1024x200x2x32 .f32) (a : Vec Ideal S1024x200x2x32 .f32) (t : Vec Ideal S1024x200x32 .f32) (s : Vec Ideal S1024x200x32 .f32) (w : Vec Ideal S192x32 .f32) : Vec Ideal S1024x200x32 .f32 :=
  Host.dotGeneral (F := Ideal) (φ₁ := .f32) (φ₂ := .f32) dot_S1024x200x192_S192x32_S1024x200x32_2_0_01_1_n_n none (histIn p a t s) w

/-- An entry of the history result is one sum over the features. -/
theorem hist_sum (p : Vec Ideal S1024x200x2x32 .f32) (a : Vec Ideal S1024x200x2x32 .f32) (t : Vec Ideal S1024x200x32 .f32) (s : Vec Ideal S1024x200x32 .f32) (w : Vec Ideal S192x32 .f32) (b : Fin 1024) (i : Fin 200) (d : Fin 32) :
    hist p a t s w (ix3 b i d) = ∑ k : Fin 192, (histIn p a t s (ix3 b i k) : EReal) * w (ix2 k d) := by
  unfold hist
  generalize histIn p a t s = x
  pointwise

/-- An entry of the history result, by kinds of feature. -/
theorem hist_apply (p : Vec Ideal S1024x200x2x32 .f32) (a : Vec Ideal S1024x200x2x32 .f32) (t : Vec Ideal S1024x200x32 .f32) (s : Vec Ideal S1024x200x32 .f32) (w : Vec Ideal S192x32 .f32) (b : Fin 1024) (i : Fin 200) (d : Fin 32) :
    hist p a t s w (ix3 b i d) = (∑ k : Fin 64, (p (ix4 b i ⟨k.val / 32, by omega⟩ ⟨k.val % 32, by omega⟩) : EReal) * w (ix2 ⟨0 + k.val, by omega⟩ d))
      + (∑ k : Fin 64, (a (ix4 b i ⟨k.val / 32, by omega⟩ ⟨k.val % 32, by omega⟩) : EReal) * w (ix2 ⟨64 + k.val, by omega⟩ d))
      + (∑ k : Fin 32, (t (ix3 b i k) : EReal) * w (ix2 ⟨128 + k.val, by omega⟩ d))
      + (∑ k : Fin 32, (s (ix3 b i k) : EReal) * w (ix2 ⟨160 + k.val, by omega⟩ d)) := by
  rw [hist_sum, sum_192]
  simp only [histIn_0, histIn_64, histIn_128, histIn_160]

/-- The user result: the features of the user, times the projection matrix. -/
def user (x : Vec Ideal S1024x4x32 .f32) (w : Vec Ideal S128x32 .f32) : Vec Ideal S1024x1x32 .f32 :=
  Host.dotGeneral (F := Ideal) (φ₁ := .f32) (φ₂ := .f32) dot_S1024x1x128_S128x32_S1024x1x32_2_0_01_1_n_n none (shapeCast _ x shapeCasts_S1024x4x32_S1024x1x128) w

/-- An entry of the user result is one sum over the features. -/
theorem user_apply (x : Vec Ideal S1024x4x32 .f32) (w : Vec Ideal S128x32 .f32) (b : Fin 1024) (z : Fin 1) (d : Fin 32) :
    user x w (ix3 b z d) = ∑ k : Fin 128, (x (ix3 b ⟨k.val / 32, by omega⟩ ⟨k.val % 32, by omega⟩) : EReal) * w (ix2 k d) := by
  unfold user
  pointwise

/-- The user mask: whether the first hash is not zero. -/
def userMask (x : IVec S1024x4 32) : IVec S1024x1 1 :=
  shapeCast _ (cmpi .ne (shapeCast _ (extractStridedSlice S1024x1 ![0, 0] x slices_S1024x4_S1024x1_0_0) shapeCasts_S1024x1_S1024) (broadcastInDim S1024 ![] bcast_S_S1024 (constantI S_ 32 0#32))) shapeCasts_S1024_S1024x1

/-- An entry of the user mask. -/
theorem userMask_apply (x : IVec S1024x4 32) (b : Fin 1024) (z : Fin 1) :
    userMask x (ix2 b z) = IntOp.cmpi .ne (x (ix2 b 0)) 0#32 := by
  unfold userMask
  pointwise

/-- The history mask: whether the first hash of a post is not zero. -/
def histMask (x : IVec S1024x200x2 32) : IVec S1024x200 1 :=
  cmpi .ne (shapeCast _ (extractStridedSlice S1024x200x1 ![0, 0, 0] x slices_S1024x200x2_S1024x200x1_0_0_0) shapeCasts_S1024x200x1_S1024x200) (broadcastInDim S1024x200 ![] bcast_S_S1024x200 (constantI S_ 32 0#32))

/-- An entry of the history mask. -/
theorem histMask_apply (x : IVec S1024x200x2 32) (b : Fin 1024) (i : Fin 200) :
    histMask x (ix2 b i) = IntOp.cmpi .ne (x (ix3 b i 0)) 0#32 := by
  unfold histMask
  pointwise

/-- The candidate mask: whether the first hash of a post is not zero. -/
def candMask (x : IVec S1024x32x2 32) : IVec S1024x32 1 :=
  cmpi .ne (shapeCast _ (extractStridedSlice S1024x32x1 ![0, 0, 0] x slices_S1024x32x2_S1024x32x1_0_0_0) shapeCasts_S1024x32x1_S1024x32) (broadcastInDim S1024x32 ![] bcast_S_S1024x32 (constantI S_ 32 0#32))

/-- An entry of the candidate mask. -/
theorem candMask_apply (x : IVec S1024x32x2 32) (b : Fin 1024) (i : Fin 32) :
    candMask x (ix2 b i) = IntOp.cmpi .ne (x (ix3 b i 0)) 0#32 := by
  unfold candMask
  pointwise

end Cert.ReferenceIdeal.Plain

end
-- ==== Proof.Kern.Equation.lean ====
module

public import proofs.«01_k».proof.Proof.Kern.Results
public import proofs.«01_k».proof.Proof.Kern.Reference

/-! Each result of the kernel is the reference's function of the same arguments. -/

@[expose] public section

set_option maxRecDepth 16384

noncomputable section

namespace Cert.KernelIdeal.Kern

open Idealize.ShloMosaic Idealize.ShloMosaic.TcCoe Idealize.ShloMosaic.Tactic
open Cert.KernelIdeal.Gen
open Idealize.SL.Sem

variable (m : (ℓ : Loc nD τ sig) → Buf (Elt Ideal) ℓ)

/-- The layout of the candidate result: output `d` of position `i` is row `32 i + d`. -/
theorem cand_layout (X : Vec Ideal S1024x1024 .f32) (b : Fin 1024) (i : Fin 32) (d : Fin 32) :
    transpose S1024x32x32 [2, 0, 1] (shapeCast S32x32x1024 X shapeCasts_S1024x1024_S32x32x1024) transposes_S32x32x1024_S1024x32x32_2_0_1 (ix3 b i d)
      = X (ix2 ⟨32 * i.val + d.val, by have := i.isLt; have := d.isLt; omega⟩ b) := by
  pointwise
  exact congrArg X (congrArg₂ ix2 (Fin.ext (congrArg (· + d.val) (Nat.mul_comm i.val 32))) rfl)

/-- The candidate result of the kernel is the reference's. -/
theorem eq_v33 (c : Dev nD) :
    Pipeline.afterTail₀ cfgs (dats m) 0 (V0 m) [hostOps1] c main_v33 = Cert.ReferenceIdeal.Plain.cand (m ((c.tc : Thread nD τ).loc main_arg8)) (m ((c.tc : Thread nD τ).loc main_arg9)) (m ((c.tc : Thread nD τ).loc main_arg10)) (m ((c.tc : Thread nD τ).loc main_arg12)) := by
  rw [res_v33, arr_15]
  funext j
  obtain ⟨b, i, d, rfl⟩ : ∃ (b : Fin 1024) (i : Fin 32) (d : Fin 32), j = ix3 b i d := ⟨j 0, j 1, j 2, eq_ix3 j⟩
  rw [Cert.ReferenceIdeal.Plain.cand_apply]
  have hi := i.isLt
  have hd := d.isLt
  rw [cand_layout]
  show candEntry (V m c main_v20) (V m c main_v9) (V m c main_v11) (V m c main_v13) ⟨32 * i.val + d.val, by omega⟩ b = _
  unfold candEntry
  refine congrArg₂ (· + ·) (congrArg₂ (· + ·) ?_ ?_) ?_
  · refine Finset.sum_congr rfl fun k _ => ?_
    rw [in_v20]
    refine (mul_comm _ _).trans (congrArg₂ (· * ·) ?_ (congrArg _ (congrArg (ix2 _) (Fin.ext (by show (32 * i.val + d.val) % 32 = d.val; omega)))))
    refine Eq.trans (congrArg _ (congrArg₂ ix2 (Fin.ext ?_) rfl)) (in_v9 m c i k b)
    show 64 * ((32 * i.val + d.val) / 32) + k.val = 64 * i.val + k.val
    omega
  · refine Finset.sum_congr rfl fun k _ => ?_
    rw [in_v20]
    refine (mul_comm _ _).trans (congrArg₂ (· * ·) ?_ (congrArg _ (congrArg (ix2 _) (Fin.ext (by show (32 * i.val + d.val) % 32 = d.val; omega)))))
    refine Eq.trans (congrArg _ (congrArg₂ ix2 (Fin.ext ?_) rfl)) (in_v11 m c i k b)
    show 64 * ((32 * i.val + d.val) / 32) + k.val = 64 * i.val + k.val
    omega
  · refine Finset.sum_congr rfl fun k _ => ?_
    rw [in_v20]
    refine (mul_comm _ _).trans (congrArg₂ (· * ·) ?_ (congrArg _ (congrArg (ix2 _) (Fin.ext (by show (32 * i.val + d.val) % 32 = d.val; omega)))))
    refine Eq.trans (congrArg _ (congrArg₂ ix2 (Fin.ext ?_) rfl)) (in_v13 m c i k b)
    show 32 * ((32 * i.val + d.val) / 32) + k.val = 32 * i.val + k.val
    omega

/-- The layout of the history result: output `d` of position `i` is row `32 i + d`. -/
theorem hist_layout (X : Vec Ideal S6400x1024 .f32) (b : Fin 1024) (i : Fin 200) (d : Fin 32) :
    transpose S1024x200x32 [2, 0, 1] (shapeCast S200x32x1024 X shapeCasts_S6400x1024_S200x32x1024) transposes_S200x32x1024_S1024x200x32_2_0_1 (ix3 b i d)
      = X (ix2 ⟨32 * i.val + d.val, by have := i.isLt; have := d.isLt; omega⟩ b) := by
  pointwise
  exact congrArg X (congrArg₂ ix2 (Fin.ext (congrArg (· + d.val) (Nat.mul_comm i.val 32))) rfl)

/-- The history result of the kernel is the reference's. -/
theorem eq_v36 (c : Dev nD) :
    Pipeline.afterTail₀ cfgs (dats m) 0 (V0 m) [hostOps1] c main_v36 = Cert.ReferenceIdeal.Plain.hist (m ((c.tc : Thread nD τ).loc main_arg3)) (m ((c.tc : Thread nD τ).loc main_arg4)) (m ((c.tc : Thread nD τ).loc main_arg6)) (m ((c.tc : Thread nD τ).loc main_arg5)) (m ((c.tc : Thread nD τ).loc main_arg13)) := by
  rw [res_v36, arr_14]
  funext j
  obtain ⟨b, i, d, rfl⟩ : ∃ (b : Fin 1024) (i : Fin 200) (d : Fin 32), j = ix3 b i d := ⟨j 0, j 1, j 2, eq_ix3 j⟩
  rw [Cert.ReferenceIdeal.Plain.hist_apply]
  have hi := i.isLt
  have hd := d.isLt
  rw [hist_layout]
  show histEntry (V m c main_v21) (V m c main_v1) (V m c main_v3) (V m c main_v5) (V m c main_v7) ⟨32 * i.val + d.val, by omega⟩ b = _
  unfold histEntry
  refine congrArg₂ (· + ·) (congrArg₂ (· + ·) (congrArg₂ (· + ·) ?_ ?_) ?_) ?_
  · refine Finset.sum_congr rfl fun k _ => ?_
    rw [in_v21]
    refine (mul_comm _ _).trans (congrArg₂ (· * ·) ?_ (congrArg _ (congrArg (ix2 _) (Fin.ext (by show (32 * i.val + d.val) % 32 = d.val; omega)))))
    refine Eq.trans (congrArg _ (congrArg₂ ix2 (Fin.ext ?_) rfl)) (in_v1 m c i k b)
    show 64 * ((32 * i.val + d.val) / 32) + k.val = 64 * i.val + k.val
    omega
  · refine Finset.sum_congr rfl fun k _ => ?_
    rw [in_v21]
    refine (mul_comm _ _).trans (congrArg₂ (· * ·) ?_ (congrArg _ (congrArg (ix2 _) (Fin.ext (by show (32 * i.val + d.val) % 32 = d.val; omega)))))
    refine Eq.trans (congrArg _ (congrArg₂ ix2 (Fin.ext ?_) rfl)) (in_v3 m c i k b)
    show 64 * ((32 * i.val + d.val) / 32) + k.val = 64 * i.val + k.val
    omega
  · refine Finset.sum_congr rfl fun k _ => ?_
    rw [in_v21]
    refine (mul_comm _ _).trans (congrArg₂ (· * ·) ?_ (congrArg _ (congrArg (ix2 _) (Fin.ext (by show (32 * i.val + d.val) % 32 = d.val; omega)))))
    refine Eq.trans (congrArg _ (congrArg₂ ix2 (Fin.ext ?_) rfl)) (in_v5 m c i k b)
    show 32 * ((32 * i.val + d.val) / 32) + k.val = 32 * i.val + k.val
    omega
  · refine Finset.sum_congr rfl fun k _ => ?_
    rw [in_v21]
    refine (mul_comm _ _).trans (congrArg₂ (· * ·) ?_ (congrArg _ (congrArg (ix2 _) (Fin.ext (by show (32 * i.val + d.val) % 32 = d.val; omega)))))
    refine Eq.trans (congrArg _ (congrArg₂ ix2 (Fin.ext ?_) rfl)) (in_v7 m c i k b)
    show 32 * ((32 * i.val + d.val) / 32) + k.val = 32 * i.val + k.val
    omega

/-- The user result of the kernel is the reference's. -/
theorem eq_v39 (c : Dev nD) :
    Pipeline.afterTail₀ cfgs (dats m) 0 (V0 m) [hostOps1] c main_v39 = Cert.ReferenceIdeal.Plain.user (m ((c.tc : Thread nD τ).loc main_arg1)) (m ((c.tc : Thread nD τ).loc main_arg11)) := by
  rw [res_v39, arr_16]
  funext j
  obtain ⟨b, z, d, rfl⟩ : ∃ (b : Fin 1024) (z : Fin 1) (d : Fin 32), j = ix3 b z d := ⟨j 0, j 1, j 2, eq_ix3 j⟩
  rw [Cert.ReferenceIdeal.Plain.user_apply]
  have key := userOut_apply (V m c main_v19) (V m c main_v15) d b
  refine Eq.trans ?_ (key.trans ?_)
  · generalize userOut (V m c main_v19) (V m c main_v15) = U
    pointwise
  refine Finset.sum_congr rfl fun k _ => ?_
  rw [in_v19, in_v15]
  exact mul_comm _ _

/-- A word widened from one bit is not zero just when the bit is set. -/
theorem ne_of_widened (x : BitVec 32) :
    IntOp.cmpi .ne ((IntOp.cmpi .ne x 0#32).zeroExtend 32) 0#32 = IntOp.cmpi .ne x 0#32 := by
  unfold IntOp.cmpi
  by_cases h : x = 0#32
  · subst h; rfl
  · have e : (x != 0#32) = true := by simpa using h
    simp only [e]
    rfl

/-- An entry of the user mask the body stores. -/
theorem umaskOut_apply (x : Vec Ideal S4x1024 .i32) (i : Fin 1) (b : Fin 1024) :
    umaskOut x (ix2 i b) = (IntOp.cmpi .ne (x (ix2 0 b)) 0#32).zeroExtend 32 := by
  unfold umaskOut
  unfold k0_pay5
  pointwise

/-- The user mask of the kernel is the reference's. -/
theorem eq_v40 (c : Dev nD) :
    Pipeline.afterTail₀ cfgs (dats m) 0 (V0 m) [hostOps1] c main_v40 = Cert.ReferenceIdeal.Plain.userMask (m ((c.tc : Thread nD τ).loc main_arg0)) := by
  rw [res_v40, arr_17]
  funext j
  obtain ⟨b, i, rfl⟩ : ∃ (b : Fin 1024) (i : Fin 1), j = ix2 b i := ⟨j 0, j 1, eq_ix2 j⟩
  rw [Cert.ReferenceIdeal.Plain.userMask_apply]
  obtain rfl : i = 0 := Subsingleton.elim _ _
  refine Eq.trans (b := IntOp.cmpi .ne (umaskOut (F := Ideal) (V m c main_v16) (ix2 0 b)) 0#32) ?_ ?_
  · generalize umaskOut (F := Ideal) (V m c main_v16) = U
    pointwise
  rw [umaskOut_apply, in_v16, ne_of_widened]

/-- An entry of the history mask the body stores. -/
theorem hmaskOut_apply (x : Vec Ideal S200x2x1024 .i32) (i : Fin 200) (b : Fin 1024) :
    hmaskOut x (ix2 i b) = (IntOp.cmpi .ne (x (ix3 i 0 b)) 0#32).zeroExtend 32 := by
  unfold hmaskOut
  unfold k0_pay6
  pointwise

/-- The history mask of the kernel is the reference's. -/
theorem eq_v37 (c : Dev nD) :
    Pipeline.afterTail₀ cfgs (dats m) 0 (V0 m) [hostOps1] c main_v37 = Cert.ReferenceIdeal.Plain.histMask (m ((c.tc : Thread nD τ).loc main_arg2)) := by
  rw [res_v37, arr_18]
  funext j
  obtain ⟨b, i, rfl⟩ : ∃ (b : Fin 1024) (i : Fin 200), j = ix2 b i := ⟨j 0, j 1, eq_ix2 j⟩
  rw [Cert.ReferenceIdeal.Plain.histMask_apply]
  refine Eq.trans (b := IntOp.cmpi .ne (hmaskOut (F := Ideal) (V m c main_v17) (ix2 i b)) 0#32) ?_ ?_
  · generalize hmaskOut (F := Ideal) (V m c main_v17) = U
    pointwise
  rw [hmaskOut_apply, in_v17, ne_of_widened]

/-- An entry of the candidate mask the body stores. -/
theorem cmaskOut_apply (x : Vec Ideal S32x2x1024 .i32) (i : Fin 32) (b : Fin 1024) :
    cmaskOut x (ix2 i b) = (IntOp.cmpi .ne (x (ix3 i 0 b)) 0#32).zeroExtend 32 := by
  unfold cmaskOut
  unfold k0_pay7
  pointwise

/-- The candidate mask of the kernel is the reference's. -/
theorem eq_v34 (c : Dev nD) :
    Pipeline.afterTail₀ cfgs (dats m) 0 (V0 m) [hostOps1] c main_v34 = Cert.ReferenceIdeal.Plain.candMask (m ((c.tc : Thread nD τ).loc main_arg7)) := by
  rw [res_v34, arr_19]
  funext j
  obtain ⟨b, i, rfl⟩ : ∃ (b : Fin 1024) (i : Fin 32), j = ix2 b i := ⟨j 0, j 1, eq_ix2 j⟩
  rw [Cert.ReferenceIdeal.Plain.candMask_apply]
  refine Eq.trans (b := IntOp.cmpi .ne (cmaskOut (F := Ideal) (V m c main_v18) (ix2 i b)) 0#32) ?_ ?_
  · generalize cmaskOut (F := Ideal) (V m c main_v18) = U
    pointwise
  rw [cmaskOut_apply, in_v18, ne_of_widened]

end Cert.KernelIdeal.Kern

end
-- ==== Proof.Kern.Value.lean ====
module

public import proofs.«01_k».proof.Proof.Kern.Equation
public import Idealize.ShloMosaic.Lib.Claim

/-! The kernel's run, with every result named as the reference's function of the arguments. -/

@[expose] public section

set_option maxRecDepth 16384

noncomputable section

namespace Cert.KernelIdeal.Kern

open Idealize.ShloMosaic Idealize.ShloMosaic.TcCoe Idealize.ShloMosaic.Tactic
open Cert.KernelIdeal.Gen
open Idealize.SL.Sem

variable (m : (ℓ : Loc nD τ sig) → Buf (Elt Ideal) ℓ) (ρ : Dev nD → PrngReg)

/-- Every run of the kernel ends with each result buffer holding the reference's function of the arguments. -/
theorem results : θ_run defs (onTc (τ := τ) (main (F := Ideal))) ⟨m, fun _ => 0, ρ⟩ (fun r => ∀ c : Dev nD,
      r.2.mem ((c.tc : Thread nD τ).loc main_v33) = Cert.ReferenceIdeal.Plain.cand (m ((c.tc : Thread nD τ).loc main_arg8)) (m ((c.tc : Thread nD τ).loc main_arg9)) (m ((c.tc : Thread nD τ).loc main_arg10)) (m ((c.tc : Thread nD τ).loc main_arg12))
      ∧ r.2.mem ((c.tc : Thread nD τ).loc main_v34) = Cert.ReferenceIdeal.Plain.candMask (m ((c.tc : Thread nD τ).loc main_arg7))
      ∧ r.2.mem ((c.tc : Thread nD τ).loc main_v36) = Cert.ReferenceIdeal.Plain.hist (m ((c.tc : Thread nD τ).loc main_arg3)) (m ((c.tc : Thread nD τ).loc main_arg4)) (m ((c.tc : Thread nD τ).loc main_arg6)) (m ((c.tc : Thread nD τ).loc main_arg5)) (m ((c.tc : Thread nD τ).loc main_arg13))
      ∧ r.2.mem ((c.tc : Thread nD τ).loc main_v37) = Cert.ReferenceIdeal.Plain.histMask (m ((c.tc : Thread nD τ).loc main_arg2))
      ∧ r.2.mem ((c.tc : Thread nD τ).loc main_v39) = Cert.ReferenceIdeal.Plain.user (m ((c.tc : Thread nD τ).loc main_arg1)) (m ((c.tc : Thread nD τ).loc main_arg11))
      ∧ r.2.mem ((c.tc : Thread nD τ).loc main_v40) = Cert.ReferenceIdeal.Plain.userMask (m ((c.tc : Thread nD τ).loc main_arg0))) :=
  (θ_run defs _ _).mono (fun r h c => ⟨((h c).2 main_v33 (Pipeline.mem_restRefs_of main_v33 (by decide) (by decide))).trans (eq_v33 m c),
      ((h c).2 main_v34 (Pipeline.mem_restRefs_of main_v34 (by decide) (by decide))).trans (eq_v34 m c),
      ((h c).2 main_v36 (Pipeline.mem_restRefs_of main_v36 (by decide) (by decide))).trans (eq_v36 m c),
      ((h c).2 main_v37 (Pipeline.mem_restRefs_of main_v37 (by decide) (by decide))).trans (eq_v37 m c),
      ((h c).2 main_v39 (Pipeline.mem_restRefs_of main_v39 (by decide) (by decide))).trans (eq_v39 m c),
      ((h c).2 main_v40 (Pipeline.mem_restRefs_of main_v40 (by decide) (by decide))).trans (eq_v40 m c)⟩) (run_main m ρ)

end Cert.KernelIdeal.Kern

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Whole.Frame
public import proofs.«01_k».proof.Proof.Kern.Value
public import Idealize.ShloMosaic.Lib.Claim
public import Idealize.ShloMosaic.Lib.Quiescent

/-! The five claims, assembled from the runs of the kernel, of its idealized form and of the reference. -/

@[expose] public section

noncomputable section

namespace Cert.Proof

open Idealize.ShloMosaic Idealize.ShloMosaic.TcCoe Idealize.SL.Sem

/-- The reference leaves its arguments as they were, and it has no counters to leave. -/
theorem reference_frame : Cert.quiescent_ReferenceIdeal (hReferenceIdeal := Cert.ReferenceIdeal.Gen.facts) := fun m g _ =>
  (θ_run Cert.ReferenceIdeal.defs _ _).mono (fun r h => ⟨fun c => (h c).2.2.2.2.2.2, sem_eq_zero_of_no_sems rfl r.2⟩)
    (Cert.ReferenceIdeal.Value.run (F := Ideal) m g)

/-- The kernel and the reference end with the same six results. -/
theorem same_results : Cert.algebraic_KernelIdeal_ReferenceIdeal (hKernelIdeal := Cert.KernelIdeal.Gen.facts)
    (hReferenceIdeal := Cert.ReferenceIdeal.Gen.facts) := by
  intro m g m' g' _ agree
  refine ⟨fun c => Cert.ReferenceIdeal.Plain.cand (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg12)),
    fun c => Cert.ReferenceIdeal.Plain.candMask (m ((c.tc : Thread Cert.KernelIdeal.nD Cert.KernelIdeal.τ).loc Cert.KernelIdeal.main_arg7)),
    fun c => Cert.ReferenceIdeal.Plain.hist (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg5)) (m ((c.tc : Thread Cert.KernelIdeal.nD Cert.KernelIdeal.τ).loc Cert.KernelIdeal.main_arg13)),
    fun c => Cert.ReferenceIdeal.Plain.histMask (m ((c.tc : Thread Cert.KernelIdeal.nD Cert.KernelIdeal.τ).loc Cert.KernelIdeal.main_arg2)),
    fun c => Cert.ReferenceIdeal.Plain.user (m ((c.tc : Thread Cert.KernelIdeal.nD Cert.KernelIdeal.τ).loc Cert.KernelIdeal.main_arg1)) (m ((c.tc : Thread Cert.KernelIdeal.nD Cert.KernelIdeal.τ).loc Cert.KernelIdeal.main_arg11)),
    fun c => Cert.ReferenceIdeal.Plain.userMask (m ((c.tc : Thread Cert.KernelIdeal.nD Cert.KernelIdeal.τ).loc Cert.KernelIdeal.main_arg0)),
    θ_run_mono (θ_run_and (Cert.KernelIdeal.Kern.results m g) (Cert.KernelIdeal.Kern.unchanged m g)) ?_, ?_⟩
  · intro r h c
    obtain ⟨h0, h1, h2, h3, h4, h5⟩ := h.1 c
    exact ⟨h0, h1, h2, h3, h4, h5, h.2 c⟩
  · refine θ_run_mono (Cert.ReferenceIdeal.Value.run (F := Ideal) m' g') ?_
    intro r h c
    obtain ⟨h0, h1, h2, h3, h4, h5, rest⟩ := h c
    obtain ⟨a0, a1, a2, a3, a4, a5, a6, a7, a8, a9, a10, a11, a12, a13⟩ := agree c
    refine ⟨h0.trans ?_, h1.trans ?_, h2.trans ?_, h3.trans ?_, h4.trans ?_, h5.trans ?_, rest⟩
    · rw [a8, a9, a10, a12]; rfl
    · rw [a7]; rfl
    · rw [a3, a4, a5, a6, a13]; rfl
    · rw [a2]; rfl
    · rw [a1, a11]; rfl
    · rw [a0]; rfl

/-- The claim: three frames, the idealization and the equality of the results. -/
theorem claim : Cert.Claim := ⟨Cert.Kernel.Gen.facts, Cert.KernelIdeal.Gen.facts, Cert.ReferenceIdeal.Gen.facts,
  fun m g _ => Cert.Kernel.Whole.frame m g, fun m g _ => Cert.KernelIdeal.Kern.frame m g, reference_frame, trivial, same_results⟩

end Cert.Proof

end
